-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83_0) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v83_1) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v83_2) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x24x1024 : Shape := ⟨3, ![128, 24, 1024]⟩
abbrev S128x4x1024 : Shape := ⟨3, ![128, 4, 1024]⟩
abbrev S128x6x1024 : Shape := ⟨3, ![128, 6, 1024]⟩
abbrev S1024x1024 : Shape := ⟨2, ![1024, 1024]⟩
abbrev S24x128x1024 : Shape := ⟨3, ![24, 128, 1024]⟩
abbrev S4x128x1024 : Shape := ⟨3, ![4, 128, 1024]⟩
abbrev S6x128x1024 : Shape := ⟨3, ![6, 128, 1024]⟩
abbrev S2x128x1024 : Shape := ⟨3, ![2, 128, 1024]⟩
abbrev S34x128x1024 : Shape := ⟨3, ![34, 128, 1024]⟩
abbrev S29x1024x128 : Shape := ⟨3, ![29, 1024, 128]⟩
abbrev S29x16x128 : Shape := ⟨3, ![29, 16, 128]⟩
abbrev S34x1024x128 : Shape := ⟨3, ![34, 1024, 128]⟩
abbrev S34x16x128 : Shape := ⟨3, ![34, 16, 128]⟩
abbrev S2x32x128x128 : Shape := ⟨4, ![2, 32, 128, 128]⟩
abbrev S8x9x128x128 : Shape := ⟨4, ![8, 9, 128, 128]⟩
abbrev S2x36x128x128 : Shape := ⟨4, ![2, 36, 128, 128]⟩
abbrev S36x128x128 : Shape := ⟨3, ![36, 128, 128]⟩
abbrev S2x26x128x128 : Shape := ⟨4, ![2, 26, 128, 128]⟩
abbrev S2x1024x128 : Shape := ⟨3, ![2, 1024, 128]⟩
abbrev S2x16x128 : Shape := ⟨3, ![2, 16, 128]⟩
abbrev S2x2x128x128 : Shape := ⟨4, ![2, 2, 128, 128]⟩
abbrev S8x1x128x128 : Shape := ⟨4, ![8, 1, 128, 128]⟩
abbrev S2x128x128 : Shape := ⟨3, ![2, 128, 128]⟩
abbrev S128x1024 : Shape := ⟨2, ![128, 1024]⟩
abbrev S1024x128 : Shape := ⟨2, ![1024, 128]⟩
abbrev S256x1024 : Shape := ⟨2, ![256, 1024]⟩
abbrev S4x256x256 : Shape := ⟨3, ![4, 256, 256]⟩
abbrev S1x128x1024 : Shape := ⟨3, ![1, 128, 1024]⟩
abbrev S1024x256 : Shape := ⟨2, ![1024, 256]⟩
abbrev S256x256 : Shape := ⟨2, ![256, 256]⟩
abbrev S32x256 : Shape := ⟨2, ![32, 256]⟩
abbrev S256 : Shape := ⟨1, ![256]⟩
abbrev S1x256 : Shape := ⟨2, ![1, 256]⟩
abbrev S4x256 : Shape := ⟨2, ![4, 256]⟩
abbrev S4x128 : Shape := ⟨2, ![4, 128]⟩
abbrev S1x4x128 : Shape := ⟨3, ![1, 4, 128]⟩
abbrev S64x256 : Shape := ⟨2, ![64, 256]⟩
abbrev S256x128 : Shape := ⟨2, ![256, 128]⟩
abbrev S1x256x128 : Shape := ⟨3, ![1, 256, 128]⟩
abbrev S1x64x256 : Shape := ⟨3, ![1, 64, 256]⟩
abbrev S1x128x128 : Shape := ⟨3, ![1, 128, 128]⟩
abbrev S128x128 : Shape := ⟨2, ![128, 128]⟩
abbrev S1x1x128x128 : Shape := ⟨4, ![1, 1, 128, 128]⟩
abbrev S128x256 : Shape := ⟨2, ![128, 256]⟩
abbrev S8x256 : Shape := ⟨2, ![8, 256]⟩
abbrev S8x128 : Shape := ⟨2, ![8, 128]⟩
abbrev S1x8x128 : Shape := ⟨3, ![1, 8, 128]⟩

abbrev nBuf : Space → Nat
  | .hbm => 28
  | .vmem => 34
  | .smem => 0
  | _ => 0

abbrev bufTy : (tb : Table) → Fin (tcTables nBuf tb) → BufTy
  | .hbm, ⟨0, _⟩ => ⟨S128x24x1024, .bf16⟩
  | .hbm, ⟨1, _⟩ => ⟨S128x4x1024, .bf16⟩
  | .hbm, ⟨2, _⟩ => ⟨S128x6x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S24x128x1024, .bf16⟩
  | .hbm, ⟨7, _⟩ => ⟨S4x128x1024, .bf16⟩
  | .hbm, ⟨8, _⟩ => ⟨S6x128x1024, .bf16⟩
  | .hbm, ⟨9, _⟩ => ⟨S2x128x1024, .bf16⟩
  | .hbm, ⟨10, _⟩ => ⟨S2x128x1024, .bf16⟩
  | .hbm, ⟨11, _⟩ => ⟨S2x128x1024, .bf16⟩
  | .hbm, ⟨12, _⟩ => ⟨S34x128x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S29x1024x128, .fp8e4m3⟩
  | .hbm, ⟨17, _⟩ => ⟨S29x16x128, .f32⟩
  | .hbm, ⟨18, _⟩ => ⟨S34x1024x128, .fp8e4m3⟩
  | .hbm, ⟨19, _⟩ => ⟨S34x16x128, .f32⟩
  | .hbm, ⟨20, _⟩ => ⟨S34x1024x128, .fp8e4m3⟩
  | .hbm, ⟨21, _⟩ => ⟨S34x16x128, .f32⟩
  | .hbm, ⟨22, _⟩ => ⟨S2x32x128x128, .i32⟩
  | .hbm, ⟨23, _⟩ => ⟨S8x9x128x128, .i32⟩
  | .hbm, ⟨24, _⟩ => ⟨S2x36x128x128, .i32⟩
  | .hbm, ⟨25, _⟩ => ⟨S36x128x128, .f32⟩
  | .hbm, ⟨26, _⟩ => ⟨S2x26x128x128, .i32⟩
  | .hbm, ⟨27, _⟩ => ⟨S2x26x128x128, .i32⟩
  | .local _ .vmem, ⟨0, _⟩ => ⟨S2x128x1024, .bf16⟩
  | .local _ .vmem, ⟨1, _⟩ => ⟨S2x128x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S2x1024x128, .fp8e4m3⟩
  | .local _ .vmem, ⟨6, _⟩ => ⟨S2x1024x128, .fp8e4m3⟩
  | .local _ .vmem, ⟨7, _⟩ => ⟨S2x16x128, .f32⟩
  | .local _ .vmem, ⟨8, _⟩ => ⟨S2x16x128, .f32⟩
  | .local _ .vmem, ⟨9, _⟩ => ⟨S2x1024x128, .fp8e4m3⟩
  | .local _ .vmem, ⟨10, _⟩ => ⟨S2x1024x128, .fp8e4m3⟩
  | .local _ .vmem, ⟨11, _⟩ => ⟨S2x16x128, .f32⟩
  | .local _ .vmem, ⟨12, _⟩ => ⟨S2x16x128, .f32⟩
  | .local _ .vmem, ⟨13, _⟩ => ⟨S2x1024x128, .fp8e4m3⟩
  | .local _ .vmem, ⟨14, _⟩ => ⟨S2x1024x128, .fp8e4m3⟩
  | .local _ .vmem, ⟨15, _⟩ => ⟨S2x16x128, .f32⟩
  | .local _ .vmem, ⟨16, _⟩ => ⟨S2x16x128, .f32⟩
  | .local _ .vmem, ⟨17, _⟩ => ⟨S2x2x128x128, .i32⟩
  | .local _ .vmem, ⟨18, _⟩ => ⟨S2x2x128x128, .i32⟩
  | .local _ .vmem, ⟨19, _⟩ => ⟨S8x1x128x128, .i32⟩
  | .local _ .vmem, ⟨20, _⟩ => ⟨S8x1x128x128, .i32⟩
  | .local _ .vmem, ⟨21, _⟩ => ⟨S2x2x128x128, .i32⟩
  | .local _ .vmem, ⟨22, _⟩ => ⟨S2x2x128x128, .i32⟩
  | .local _ .vmem, ⟨23, _⟩ => ⟨S2x128x128, .f32⟩
  | .local _ .vmem, ⟨24, _⟩ => ⟨S2x128x128, .f32⟩
  | .local _ .vmem, ⟨25, _⟩ => ⟨S2x2x128x128, .i32⟩
  | .local _ .vmem, ⟨26, _⟩ => ⟨S2x2x128x128, .i32⟩
  | .local _ .vmem, ⟨27, _⟩ => ⟨S2x2x128x128, .i32⟩
  | .local _ .vmem, ⟨28, _⟩ => ⟨S2x2x128x128, .i32⟩
  | .local _ .vmem, ⟨29, _⟩ => ⟨S128x1024, .f32⟩
  | .local _ .vmem, ⟨30, _⟩ => ⟨S1024x128, .i32⟩
  | .local _ .vmem, ⟨31, _⟩ => ⟨S256x1024, .bf16⟩
  | .local _ .vmem, ⟨32, _⟩ => ⟨S4x256x256, .i32⟩
  | .local _ .vmem, ⟨33, _⟩ => ⟨S2x128x128, .f32⟩
  | _, _ => ⟨S128x24x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev main_v10_9 : Ref sig .tc := ⟨.hbm, 25, rfl⟩
abbrev main_v10_10 : Ref sig .tc := ⟨.hbm, 26, rfl⟩
abbrev main_v10_11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c14_i32 : BitVec 32 := 14#32
  let v1 : BitVec 32 := Scalar.maxsi c0_i32 v0
  let v2 : BitVec 32 := Scalar.minsi c14_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c14_i32 : BitVec 32 := 14#32
  let v1 : BitVec 32 := Scalar.maxsi c0_i32 v0
  let v2 : BitVec 32 := Scalar.minsi c14_i32 v1
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let c0_i32 : BitVec 32 := 0#32
  let v0 : BitVec 1 := Scalar.cmpi .eq arg0 c0_i32
  let c14_i32 : BitVec 32 := 14#32
  let v1 : BitVec 1 := Scalar.cmpi .sle arg0 c14_i32
  let c2_i32 : BitVec 32 := 2#32
  let v2 : BitVec 32 := Scalar.addi arg0 c2_i32
  let c15_i32 : BitVec 32 := 15#32
  let v3 : BitVec 1 := Scalar.cmpi .eq arg0 c15_i32
  let c2_i32_0 : BitVec 32 := 2#32
  let c0_i32_1 : BitVec 32 := 0#32
  let v4 : BitVec 32 := Scalar.select v3 c2_i32_0 c0_i32_1
  let v5 : BitVec 32 := Scalar.select v1 v2 v4
  let c1_i32 : BitVec 32 := 1#32
  let v6 : BitVec 32 := Scalar.select v0 c1_i32 v5
  let c0_i32_2 : BitVec 32 := 0#32
  let c0_i32_3 : BitVec 32 := 0#32
  let c0_i32_4 : BitVec 32 := 0#32
  ![v6.toNat, c0_i32_2.toNat, c0_i32_3.toNat]

def cc0_transform_7 (i : grid0.Coords) : Fin 3 → Nat :=
  let arg0 : BitVec 32 := BitVec.ofNat 32 (i 0).val
  let c0_i32 : BitVec 32 := 0#32
  let v0 : BitVec 1 := Scalar.cmpi .eq arg0 c0_i32
  let c14_i32 : BitVec 32 := 14#32
  let v1 : BitVec 1 := Scalar.cmpi .sle arg0 c14_i32
  let c2_i32 : BitVec 32 := 2#32
  let v2 : BitVec 32 := Scalar.addi arg0 c2_i32
  let c15_i32 : BitVec 32 := 15#32
  let v3 : BitVec 1 := Scalar.cmpi .eq arg0 c15_i32
  let c2_i32_0 : BitVec 32 := 2#32
  let c0_i32_1 : BitVec 32 := 0#32
  let v4 : BitVec 32 := Scalar.select v3 c2_i32_0 c0_i32_1
  let v5 : BitVec 32 := Scalar.select v1 v2 v4
  let c1_i32 : BitVec 32 := 1#32
  let v6 : BitVec 32 := Scalar.select v0 c1_i32 v5
  let c0_i32_2 : BitVec 32 := 0#32
  let c0_i32_3 : BitVec 32 := 0#32
  let c0_i32_4 : BitVec 32 := 0#32
  ![v6.toNat, c0_i32_2.toNat, c0_i32_3.toNat]

def cc0_transform_8 (i : grid0.Coords) : Fin 3 → Nat :=
  let arg0 : BitVec 32 := BitVec.ofNat 32 (i 0).val
  let c0_i32 : BitVec 32 := 0#32
  let v0 : BitVec 1 := Scalar.cmpi .eq arg0 c0_i32
  let c14_i32 : BitVec 32 := 14#32
  let v1 : BitVec 1 := Scalar.cmpi .sle arg0 c14_i32
  let c2_i32 : BitVec 32 := 2#32
  let v2 : BitVec 32 := Scalar.addi arg0 c2_i32
  let c15_i32 : BitVec 32 := 15#32
  let v3 : BitVec 1 := Scalar.cmpi .eq arg0 c15_i32
  let c2_i32_0 : BitVec 32 := 2#32
  let c0_i32_1 : BitVec 32 := 0#32
  let v4 : BitVec 32 := Scalar.select v3 c2_i32_0 c0_i32_1
  let v5 : BitVec 32 := Scalar.select v1 v2 v4
  let c1_i32 : BitVec 32 := 1#32
  let v6 : BitVec 32 := Scalar.select v0 c1_i32 v5
  let c0_i32_2 : BitVec 32 := 0#32
  let c0_i32_3 : BitVec 32 := 0#32
  let c0_i32_4 : BitVec 32 := 0#32
  ![v6.toNat, c0_i32_2.toNat, c0_i32_3.toNat]

def cc0_transform_9 (i : grid0.Coords) : Fin 3 → Nat :=
  let arg0 : BitVec 32 := BitVec.ofNat 32 (i 0).val
  let c0_i32 : BitVec 32 := 0#32
  let v0 : BitVec 1 := Scalar.cmpi .eq arg0 c0_i32
  let c14_i32 : BitVec 32 := 14#32
  let v1 : BitVec 1 := Scalar.cmpi .sle arg0 c14_i32
  let c2_i32 : BitVec 32 := 2#32
  let v2 : BitVec 32 := Scalar.addi arg0 c2_i32
  let c15_i32 : BitVec 32 := 15#32
  let v3 : BitVec 1 := Scalar.cmpi .eq arg0 c15_i32
  let c2_i32_0 : BitVec 32 := 2#32
  let c0_i32_1 : BitVec 32 := 0#32
  let v4 : BitVec 32 := Scalar.select v3 c2_i32_0 c0_i32_1
  let v5 : BitVec 32 := Scalar.select v1 v2 v4
  let c1_i32 : BitVec 32 := 1#32
  let v6 : BitVec 32 := Scalar.select v0 c1_i32 v5
  let c0_i32_2 : BitVec 32 := 0#32
  let c0_i32_3 : BitVec 32 := 0#32
  let c0_i32_4 : BitVec 32 := 0#32
  ![v6.toNat, c0_i32_2.toNat, c0_i32_3.toNat]

def cc0_transform_10 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_11 (i : grid0.Coords) : Fin 4 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.select v0 c8_i32 v18
  let c0_i32_6 : BitVec 32 := 0#32
  let c0_i32_7 : BitVec 32 := 0#32
  let c0_i32_8 : BitVec 32 := 0#32
  let c0_i32_9 : BitVec 32 := 0#32
  ![c0_i32_6.toNat, v19.toNat, c0_i32_7.toNat, c0_i32_8.toNat]

def cc0_transform_12 (i : grid0.Coords) : Fin 4 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c17_i32 : BitVec 32 := 17#32
  let v2 : BitVec 32 := Scalar.select v0 c17_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_13 (i : grid0.Coords) : Fin 3 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c17_i32 : BitVec 32 := 17#32
  let v2 : BitVec 32 := Scalar.select v0 c17_i32 v1
  let c0_i32_0 : BitVec 32 := 0#32
  let c0_i32_1 : BitVec 32 := 0#32
  let c0_i32_2 : BitVec 32 := 0#32
  ![v2.toNat, c0_i32_0.toNat, c0_i32_1.toNat]

def cc0_transform_14 (i : grid0.Coords) : Fin 4 → Nat :=
  let arg0 : BitVec 32 := BitVec.ofNat 32 (i 0).val
  let c3_i32 : BitVec 32 := 3#32
  let v0 : BitVec 32 := Scalar.subi arg0 c3_i32
  let c0_i32 : BitVec 32 := 0#32
  let c12_i32 : BitVec 32 := 12#32
  let v1 : BitVec 32 := Scalar.maxsi c0_i32 v0
  let v2 : BitVec 32 := Scalar.minsi c12_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_15 (i : grid0.Coords) : Fin 4 → Nat :=
  let arg0 : BitVec 32 := BitVec.ofNat 32 (i 0).val
  let c3_i32 : BitVec 32 := 3#32
  let v0 : BitVec 32 := Scalar.subi arg0 c3_i32
  let c0_i32 : BitVec 32 := 0#32
  let c12_i32 : BitVec 32 := 12#32
  let v1 : BitVec 32 := Scalar.maxsi c0_i32 v0
  let v2 : BitVec 32 := Scalar.minsi c12_i32 v1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

abbrev stage0_0 : Fin 2 → Memref sig .tc .vmem S2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x128x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x128x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2x128x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x2x128x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x2x128x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S128x24x1024 : Shape := ⟨3, ![128, 24, 1024]⟩
abbrev S128x4x1024 : Shape := ⟨3, ![128, 4, 1024]⟩
abbrev S128x6x1024 : Shape := ⟨3, ![128, 6, 1024]⟩
abbrev S1024x1024 : Shape := ⟨2, ![1024, 1024]⟩
abbrev S_ : Shape := ⟨0, ![]⟩
abbrev S128x1024 : Shape := ⟨2, ![128, 1024]⟩
abbrev S128x1x1024 : Shape := ⟨3, ![128, 1, 1024]⟩
abbrev S128x29x1024 : Shape := ⟨3, ![128, 29, 1024]⟩
abbrev S128x34x1024 : Shape := ⟨3, ![128, 34, 1024]⟩
abbrev S128x29x16x64 : Shape := ⟨4, ![128, 29, 16, 64]⟩
abbrev S128x34x16x64 : Shape := ⟨4, ![128, 34, 16, 64]⟩
abbrev S128x29x16 : Shape := ⟨3, ![128, 29, 16]⟩
abbrev S128x29x16x1 : Shape := ⟨4, ![128, 29, 16, 1]⟩
abbrev S29x16x128 : Shape := ⟨3, ![29, 16, 128]⟩
abbrev S29x16x64x128 : Shape := ⟨4, ![29, 16, 64, 128]⟩
abbrev S29x1024x128 : Shape := ⟨3, ![29, 1024, 128]⟩
abbrev S128x34x16 : Shape := ⟨3, ![128, 34, 16]⟩
abbrev S128x34x16x1 : Shape := ⟨4, ![128, 34, 16, 1]⟩
abbrev S34x16x128 : Shape := ⟨3, ![34, 16, 128]⟩
abbrev S34x16x64x128 : Shape := ⟨4, ![34, 16, 64, 128]⟩
abbrev S34x1024x128 : Shape := ⟨3, ![34, 1024, 128]⟩

abbrev nBuf : Space → Nat
  | .hbm => 118
  | .vmem => 6
  | .smem => 0
  | _ => 0

abbrev bufTy : (tb : Table) → Fin (tcTables nBuf tb) → BufTy
  | .hbm, ⟨0, _⟩ => ⟨S128x24x1024, .bf16⟩
  | .hbm, ⟨1, _⟩ => ⟨S128x4x1024, .bf16⟩
  | .hbm, ⟨2, _⟩ => ⟨S128x6x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S128x24x1024, .f32⟩
  | .hbm, ⟨7, _⟩ => ⟨S_, .f32⟩
  | .hbm, ⟨8, _⟩ => ⟨S128x1024, .f32⟩
  | .hbm, ⟨9, _⟩ => ⟨S128x1x1024, .f32⟩
  | .hbm, ⟨10, _⟩ => ⟨S_, .f32⟩
  | .hbm, ⟨11, _⟩ => ⟨S128x1x1024, .f32⟩
  | .hbm, ⟨12, _⟩ => ⟨S128x1x1024, .f32⟩
  | .hbm, ⟨13, _⟩ => ⟨S128x1x1024, .bf16⟩
  | .hbm, ⟨14, _⟩ => ⟨S128x29x1024, .bf16⟩
  | .hbm, ⟨15, _⟩ => ⟨S128x34x1024, .bf16⟩
  | .hbm, ⟨16, _⟩ => ⟨S128x29x1024, .f32⟩
  | .hbm, ⟨17, _⟩ => ⟨S128x29x16x64, .f32⟩
  | .hbm, ⟨18, _⟩ => ⟨S128x34x1024, .f32⟩
  | .hbm, ⟨19, _⟩ => ⟨S128x34x16x64, .f32⟩
  | .hbm, ⟨20, _⟩ => ⟨S128x34x1024, .f32⟩
  | .hbm, ⟨21, _⟩ => ⟨S128x34x16x64, .f32⟩
  | .hbm, ⟨22, _⟩ => ⟨S128x29x16x64, .f32⟩
  | .hbm, ⟨23, _⟩ => ⟨S_, .f32⟩
  | .hbm, ⟨24, _⟩ => ⟨S128x29x16, .f32⟩
  | .hbm, ⟨25, _⟩ => ⟨S_, .f32⟩
  | .hbm, ⟨26, _⟩ => ⟨S128x29x16, .f32⟩
  | .hbm, ⟨27, _⟩ => ⟨S_, .f32⟩
  | .hbm, ⟨28, _⟩ => ⟨S128x29x16, .f32⟩
  | .hbm, ⟨29, _⟩ => ⟨S128x29x16, .f32⟩
  | .hbm, ⟨30, _⟩ => ⟨S128x29x16, .f32⟩
  | .hbm, ⟨31, _⟩ => ⟨S128x29x16, .f32⟩
  | .hbm, ⟨32, _⟩ => ⟨S128x29x16, .f32⟩
  | .hbm, ⟨33, _⟩ => ⟨S128x29x16, .f32⟩
  | .hbm, ⟨34, _⟩ => ⟨S_, .f32⟩
  | .hbm, ⟨35, _⟩ => ⟨S128x29x16, .f32⟩
  | .hbm, ⟨36, _⟩ => ⟨S128x29x16, .f32⟩
  | .hbm, ⟨37, _⟩ => ⟨S_, .f32⟩
  | .hbm, ⟨38, _⟩ => ⟨S128x29x16, .f32⟩
  | .hbm, ⟨39, _⟩ => ⟨S128x29x16, .i1⟩
  | .hbm, ⟨40, _⟩ => ⟨S_, .f32⟩
  | .hbm, ⟨41, _⟩ => ⟨S_, .f32⟩
  | .hbm, ⟨42, _⟩ => ⟨S128x29x16, .f32⟩
  | .hbm, ⟨43, _⟩ => ⟨S128x29x16, .f32⟩
  | .hbm, ⟨44, _⟩ => ⟨S128x29x16, .f32⟩
  | .hbm, ⟨45, _⟩ => ⟨S128x29x16, .f32⟩
  | .hbm, ⟨46, _⟩ => ⟨S128x29x16, .f32⟩
  | .hbm, ⟨47, _⟩ => ⟨S128x29x16x1, .f32⟩
  | .hbm, ⟨48, _⟩ => ⟨S128x29x16x64, .f32⟩
  | .hbm, ⟨49, _⟩ => ⟨S128x29x16x64, .f32⟩
  | .hbm, ⟨50, _⟩ => ⟨S29x16x128, .f32⟩
  | .hbm, ⟨51, _⟩ => ⟨S29x16x64x128, .f32⟩
  | .hbm, ⟨52, _⟩ => ⟨S29x1024x128, .f32⟩
  | .hbm, ⟨53, _⟩ => ⟨S128x34x16x64, .f32⟩
  | .hbm, ⟨54, _⟩ => ⟨S_, .f32⟩
  | .hbm, ⟨55, _⟩ => ⟨S128x34x16, .f32⟩
  | .hbm, ⟨56, _⟩ => ⟨S_, .f32⟩
  | .hbm, ⟨57, _⟩ => ⟨S128x34x16, .f32⟩
  | .hbm, ⟨58, _⟩ => ⟨S_, .f32⟩
  | .hbm, ⟨59, _⟩ => ⟨S128x34x16, .f32⟩
  | .hbm, ⟨60, _⟩ => ⟨S128x34x16, .f32⟩
  | .hbm, ⟨61, _⟩ => ⟨S128x34x16, .f32⟩
  | .hbm, ⟨62, _⟩ => ⟨S128x34x16, .f32⟩
  | .hbm, ⟨63, _⟩ => ⟨S128x34x16, .f32⟩
  | .hbm, ⟨64, _⟩ => ⟨S128x34x16, .f32⟩
  | .hbm, ⟨65, _⟩ => ⟨S_, .f32⟩
  | .hbm, ⟨66, _⟩ => ⟨S128x34x16, .f32⟩
  | .hbm, ⟨67, _⟩ => ⟨S128x34x16, .f32⟩
  | .hbm, ⟨68, _⟩ => ⟨S_, .f32⟩
  | .hbm, ⟨69, _⟩ => ⟨S128x34x16, .f32⟩
  | .hbm, ⟨70, _⟩ => ⟨S128x34x16, .i1⟩
  | .hbm, ⟨71, _⟩ => ⟨S_, .f32⟩
  | .hbm, ⟨72, _⟩ => ⟨S_, .f32⟩
  | .hbm, ⟨73, _⟩ => ⟨S128x34x16, .f32⟩
  | .hbm, ⟨74, _⟩ => ⟨S128x34x16, .f32⟩
  | .hbm, ⟨75, _⟩ => ⟨S128x34x16, .f32⟩
  | .hbm, ⟨76, _⟩ => ⟨S128x34x16, .f32⟩
  | .hbm, ⟨77, _⟩ => ⟨S128x34x16, .f32⟩
  | .hbm, ⟨78, _⟩ => ⟨S128x34x16x1, .f32⟩
  | .hbm, ⟨79, _⟩ => ⟨S128x34x16x64, .f32⟩
  | .hbm, ⟨80, _⟩ => ⟨S128x34x16x64, .f32⟩
  | .hbm, ⟨81, _⟩ => ⟨S34x16x128, .f32⟩
  | .hbm, ⟨82, _⟩ => ⟨S34x16x64x128, .f32⟩
  | .hbm, ⟨83, _⟩ => ⟨S34x1024x128, .f32⟩
  | .hbm, ⟨84, _⟩ => ⟨S128x34x16x64, .f32⟩
  | .hbm, ⟨85, _⟩ => ⟨S_, .f32⟩
  | .hbm, ⟨86, _⟩ => ⟨S128x34x16, .f32⟩
  | .hbm, ⟨87, _⟩ => ⟨S_, .f32⟩
  | .hbm, ⟨88, _⟩ => ⟨S128x34x16, .f32⟩
  | .hbm, ⟨89, _⟩ => ⟨S_, .f32⟩
  | .hbm, ⟨90, _⟩ => ⟨S128x34x16, .f32⟩
  | .hbm, ⟨91, _⟩ => ⟨S128x34x16, .f32⟩
  | .hbm, ⟨92, _⟩ => ⟨S128x34x16, .f32⟩
  | .hbm, ⟨93, _⟩ => ⟨S128x34x16, .f32⟩
  | .hbm, ⟨94, _⟩ => ⟨S128x34x16, .f32⟩
  | .hbm, ⟨95, _⟩ => ⟨S128x34x16, .f32⟩
  | .hbm, ⟨96, _⟩ => ⟨S_, .f32⟩
  | .hbm, ⟨97, _⟩ => ⟨S128x34x16, .f32⟩
  | .hbm, ⟨98, _⟩ => ⟨S128x34x16, .f32⟩
  | .hbm, ⟨99, _⟩ => ⟨S_, .f32⟩
  | .hbm, ⟨100, _⟩ => ⟨S128x34x16, .f32⟩
  | .hbm, ⟨101, _⟩ => ⟨S128x34x16, .i1⟩
  | .hbm, ⟨102, _⟩ => ⟨S_, .f32⟩
  | .hbm, ⟨103, _⟩ => ⟨S_, .f32⟩
  | .hbm, ⟨104, _⟩ => ⟨S128x34x16, .f32⟩
  | .hbm, ⟨105, _⟩ => ⟨S128x34x16, .f32⟩
  | .hbm, ⟨106, _⟩ => ⟨S128x34x16, .f32⟩
  | .hbm, ⟨107, _⟩ => ⟨S128x34x16, .f32⟩
  | .hbm, ⟨108, _⟩ => ⟨S128x34x16, .f32⟩
  | .hbm, ⟨109, _⟩ => ⟨S128x34x16x1, .f32⟩
  | .hbm, ⟨110, _⟩ => ⟨S128x34x16x64, .f32⟩
  | .hbm, ⟨111, _⟩ => ⟨S128x34x16x64, .f32⟩
  | .hbm, ⟨112, _⟩ => ⟨S34x16x128, .f32⟩
  | .hbm, ⟨113, _⟩ => ⟨S34x16x64x128, .f32⟩
  | .hbm, ⟨114, _⟩ => ⟨S34x1024x128, .f32⟩
  | .hbm, ⟨115, _⟩ => ⟨S29x1024x128, .fp8e4m3⟩
  | .hbm, ⟨116, _⟩ => ⟨S34x1024x128, .fp8e4m3⟩
  | .hbm, ⟨117, _⟩ => ⟨S34x1024x128, .fp8e4m3⟩
  | .local _ .vmem, ⟨0, _⟩ => ⟨S29x1024x128, .f32⟩
  | .local _ .vmem, ⟨1, _⟩ => ⟨S34x1024x128, .f32⟩
  | .local _ .vmem, ⟨2, _⟩ => ⟨S34x1024x128, .f32⟩
  | .local _ .vmem, ⟨3, _⟩ => ⟨S29x1024x128, .fp8e4m3⟩
  | .local _ .vmem, ⟨4, _⟩ => ⟨S34x1024x128, .fp8e4m3⟩
  | .local _ .vmem, ⟨5, _⟩ => ⟨S34x1024x128, .fp8e4m3⟩
  | _, _ => ⟨S128x24x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_call1_v0 : Ref sig .tc := ⟨.hbm, 72, rfl⟩
abbrev main_call1_v1 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_call2_v0 : Ref sig .tc := ⟨.hbm, 103, rfl⟩
abbrev main_call2_v1 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83_0 : Ref sig .tc := ⟨.hbm, 115, rfl⟩
abbrev main_v83_1 : Ref sig .tc := ⟨.hbm, 116, rfl⟩
abbrev main_v83_2 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S29x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S34x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S34x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S29x1024x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S34x1024x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S34x1024x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Loads.lean ====
module

public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit.Basic
public import Idealize.ShloMosaic.Lib.Pointwise

@[expose] public section

noncomputable section

namespace Cert.KernelIdeal.Hand

open Cert.KernelIdeal Cert.KernelIdeal.Gen
open Idealize.ShloMosaic Idealize.ShloMosaic.TcCoe

section Loads
variable {F : FTy → Type} [FloatOps F]

/-- A load of a whole 2-axis buffer reads its contents. -/
theorem readAt_unread2 {a b : Nat} {sp : Space} {e : EltTy} {κ : Kind} (arg : Memref sig κ sp ⟨2, ![a, b]⟩ e) (harg : arg.IsWhole)
    (x : Vec F ⟨2, ![a, b]⟩ e) (inb) :
    View.readAt (Elt F) arg.view (Rect.unit (s := ⟨2, ![a, b]⟩) ![0, 0] (![a, b] : Fin 2 → Nat) inb).toLoadRect (harg.unread x) = x := by
  rw [View.readAt_eq_ld, harg.read_unread]
  exact View.ld_unit_zero (S := ⟨2, ![a, b]⟩) (by funext a; match a with | ⟨0, _⟩ => rfl | ⟨1, _⟩ => rfl) inb x

/-- A load of a whole 3-axis buffer reads its contents. -/
theorem readAt_unread3 {a b c : Nat} {sp : Space} {e : EltTy} {κ : Kind} (arg : Memref sig κ sp ⟨3, ![a, b, c]⟩ e) (harg : arg.IsWhole)
    (x : Vec F ⟨3, ![a, b, c]⟩ e) (inb) :
    View.readAt (Elt F) arg.view (Rect.unit (s := ⟨3, ![a, b, c]⟩) ![0, 0, 0] (![a, b, c] : Fin 3 → Nat) inb).toLoadRect (harg.unread x) = x := by
  rw [View.readAt_eq_ld, harg.read_unread]
  exact View.ld_unit_zero (S := ⟨3, ![a, b, c]⟩) (by funext a; match a with | ⟨0, _⟩ => rfl | ⟨1, _⟩ => rfl | ⟨2, _⟩ => rfl) inb x

/-- The query rows' scratch read back after one whole store. -/
theorem readCov_xq {κ : Kind} {sp : Space} (v : View sig κ sp S256x1024 .bf16) (w : FVec F S256x1024 .bf16)
    (inb : ∀ a, (![0, 0] : Fin 2 → Nat) a + S256x1024.size a ≤ S256x1024.size a) :
    v.readCov (Val := Elt F) [(⟨Rect.unit (s := S256x1024) ![0, 0] S256x1024.size inb, w⟩ : View.Piece (Elt F) S256x1024 .bf16)]
      (Rect.unit (s := S256x1024) ![0, 0] S256x1024.size inb).toLoadRect = w := by
  rw [View.readCov_cons_toLoadRect]

/-- The query rows of the last step: the mean of the sums, then 128 rows of zeros. -/
def xqS (s : Vec F S128x1024 .f32) : FVec F S256x1024 .bf16 := fun x =>
  if h : (x 0).val < 128 then k0_pay9 s (ix2 ⟨(x 0).val, h⟩ (x 1)) else k0_pay10 (ix2 ⟨(x 0).val - 128, by have : (x 0).val < 256 := (x 0).isLt; omega⟩ (x 1))

/-- The query rows' scratch read back after its two stores of the last step. -/
theorem readCov_xqS {κ : Kind} {sp : Space} (v : View sig κ sp S256x1024 .bf16) (s : Vec F S128x1024 .f32) (inb inb' inb'') :
    v.readCov [(⟨Rect.unit (s := S256x1024) ![128, 0] S128x1024.size inb, k0_pay10⟩ : View.Piece (Elt F) S256x1024 .bf16),
        ⟨Rect.unit (s := S256x1024) ![0, 0] S128x1024.size inb', k0_pay9 s⟩]
      (Rect.unit (s := S256x1024) ![0, 0] S256x1024.size inb'').toLoadRect = xqS s := by
  funext y
  have hy0 : (y 0).val < 256 := (y 0).isLt
  have hy1 : (y 1).val < 1024 := (y 1).isLt
  have e : (Rect.unit (s := S256x1024) ![0, 0] S256x1024.size inb'').toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  show v.read (Elt F) (v.writes (Elt F) v.junk _) ((Rect.unit (s := S256x1024) ![0, 0] S256x1024.size inb'').toLoadRect.idx y) = _
  rw [e]
  refine View.read_writes_apply_of_pieces (Val := Elt F) v _ (xqS s) _ ?_ y ?_
  · intro p hp
    simp only [List.mem_cons, List.not_mem_nil, or_false] at hp
    rcases hp with rfl | rfl
    · intro x
      obtain ⟨p, q, rfl⟩ : ∃ (p : Fin 128) (q : Fin 1024), x = ix2 p q := ⟨_, _, eq_ix2 x⟩
      have h : ¬ (((Rect.unit (s := S256x1024) ![128, 0] S128x1024.size inb).emb (ix2 p q)) 0).val < 128 := by
        show ¬ 128 + 1 * p.val < 128; omega
      unfold xqS
      rw [dif_neg h]
      refine congrArg (k0_pay10 (F := F)) (a₁ := ix2 p q) (funext fun a => ?_)
      match a with
      | ⟨0, _⟩ => exact Fin.ext (by show p.val = 128 + 1 * p.val - 128; omega)
      | ⟨1, _⟩ => exact Fin.ext (by show q.val = 0 + 1 * q.val; omega)
    · intro x
      obtain ⟨p, q, rfl⟩ : ∃ (p : Fin 128) (q : Fin 1024), x = ix2 p q := ⟨_, _, eq_ix2 x⟩
      have h : (((Rect.unit (s := S256x1024) ![0, 0] S128x1024.size inb').emb (ix2 p q)) 0).val < 128 := by
        show 0 + 1 * p.val < 128; omega
      unfold xqS
      rw [dif_pos h]
      refine congrArg (k0_pay9 s) (a₁ := ix2 p q) (funext fun a => ?_)
      match a with
      | ⟨0, _⟩ => exact Fin.ext (by show p.val = 0 + 1 * p.val; omega)
      | ⟨1, _⟩ => exact Fin.ext (by show q.val = 0 + 1 * q.val; omega)
  · by_cases h : (y 0).val < 128
    · refine ⟨_, List.mem_cons_of_mem _ List.mem_cons_self, ?_⟩
      rw [← Rect.map_emb_univ]
      refine Finset.mem_map.mpr ⟨ix2 ⟨(y 0).val, h⟩ ⟨(y 1).val, hy1⟩, Finset.mem_univ _, funext fun a => ?_⟩
      match a with
      | ⟨0, _⟩ => exact Fin.ext (by show 0 + 1 * (y 0).val = (y 0).val; omega)
      | ⟨1, _⟩ => exact Fin.ext (by show 0 + 1 * (y 1).val = (y 1).val; omega)
    · refine ⟨_, List.mem_cons_self, ?_⟩
      rw [← Rect.map_emb_univ]
      refine Finset.mem_map.mpr ⟨ix2 ⟨(y 0).val - 128, by omega⟩ ⟨(y 1).val, hy1⟩, Finset.mem_univ _, funext fun a => ?_⟩
      match a with
      | ⟨0, _⟩ => exact Fin.ext (by show 128 + 1 * ((y 0).val - 128) = (y 0).val; omega)
      | ⟨1, _⟩ => exact Fin.ext (by show 0 + 1 * (y 1).val = (y 1).val; omega)

end Loads

end Cert.KernelIdeal.Hand

end
-- ==== Proof.Scale.lean ====
module

public import Idealize.ShloMosaic.PureOps.Ideal
public import Idealize.ShloMosaic.PureOps.Ideal.Laws
public import Idealize.ShloMosaic.Lib.IdealHost
public import Idealize.ShloMosaic.Lib.Pointwise
public import Idealize.ShloMosaic.Lib.ValueIdxCore

@[expose] public section

noncomputable section

namespace Cert.Hand

open Idealize.ShloMosaic Idealize.ShloMosaic.ValueIdx

/-- The constant both programs divide the maximum by 448 with. -/
abbrev c448 : EReal := Ideal.ofBits .f32 0x3B124925#32

/-- The exponent `⌊log t / log 2⌋` of `t = a / 448`, on the extended reals. -/
def lexp (a : EReal) : EReal :=
  Ideal.liftRound Int.floor (Ideal.div (Ideal.log (a * c448)) (Ideal.log (Ideal.ofBits .f32 0x40000000#32)))

/-- The power of two the kernel starts from. -/
def ebK (a : EReal) : EReal := Ideal.exp2 (lexp a)

/-- The kernel's scale of a group with largest magnitude `a`. -/
def sclK (a : EReal) : EReal :=
  Scalar.select (Ideal.cmp .oeq (ebK a) (Ideal.ofBits .f32 0x00000000#32)) (Ideal.ofBits .f32 0x3F800000#32)
    (ebK a * Ideal.ofBits .f32 0x40000000#32)

/-- The kernel's inverse scale of a group with largest magnitude `a`. -/
def invK (a : EReal) : EReal :=
  Scalar.select (Ideal.cmp .oeq (ebK a) (Ideal.ofBits .f32 0x00000000#32)) (Ideal.ofBits .f32 0x3F800000#32)
    (Ideal.div (Ideal.ofBits .f32 0x3F000000#32) (ebK a))

/-- The reference's exponent: one more than `lexp`, and 0 where the magnitude is 0. -/
def expR (a : EReal) : EReal :=
  Scalar.select (Ideal.cmp .oeq a (Ideal.ofBits .f32 0x00000000#32)) (Ideal.ofBits .f32 0x00000000#32)
    (lexp a + Ideal.ofBits .f32 0x3F800000#32)

/-- The f32 pattern of 2 is the real 2. -/
theorem ofBits_two : Ideal.ofBits .f32 0x40000000#32 = ((2 : ℝ) : EReal) := by
  simp [Ideal.ofBits, Ideal.ieee, -EReal.coe_mul]; norm_num

/-- The f32 pattern of one half is the real one half. -/
theorem ofBits_half : Ideal.ofBits .f32 0x3F000000#32 = ((1 / 2 : ℝ) : EReal) := by
  simp [Ideal.ofBits, Ideal.ieee, -EReal.coe_mul]; norm_num

/-- The f32 pattern of 1 is the real 1. -/
theorem ofBits_one : Ideal.ofBits .f32 0x3F800000#32 = ((1 : ℝ) : EReal) := by
  rw [Ideal.ofBits_one_f32]; norm_cast

/-- The constant is a positive real. -/
theorem c448_pos : ∃ c : ℝ, 0 < c ∧ c448 = (c : EReal) := by
  refine ⟨9586981 / 4294967296, by norm_num, ?_⟩
  simp [c448, Ideal.ofBits, Ideal.ieee, -EReal.coe_mul]; norm_num

/-- The quotient by `log 2` of an infinity or of a real. -/
theorem div_log2 (x : EReal) : Ideal.div x (Ideal.log (Ideal.ofBits .f32 0x40000000#32))
    = x * (((Real.log 2)⁻¹ : ℝ) : EReal) := by
  rw [ofBits_two, Ideal.log_coe, if_neg (by norm_num)]
  have h : (0 : ℝ) < Real.log 2 := Real.log_pos (by norm_num)
  unfold Ideal.div
  rw [if_neg (by exact_mod_cast h.ne'), EReal.coe_inv]

/-- The exponent of magnitude 0 is −∞, of ∞ is ∞, and of a positive real an integer. -/
theorem lexp_cases (a : EReal) (ha : 0 ≤ a) :
    (a = 0 ∧ lexp a = ⊥) ∨ (a = ⊤ ∧ lexp a = ⊤) ∨ (a ≠ 0 ∧ ∃ z : ℝ, lexp a = (z : EReal)) := by
  obtain ⟨c, hc, hce⟩ := c448_pos
  have h2 : (0 : ℝ) < (Real.log 2)⁻¹ := inv_pos.mpr (Real.log_pos (by norm_num))
  induction a with
  | bot => exact absurd ha (by simp)
  | top =>
    refine Or.inr (Or.inl ⟨rfl, ?_⟩)
    unfold lexp; rw [div_log2, hce, EReal.top_mul_coe_of_pos hc, Ideal.log_top, EReal.top_mul_coe_of_pos h2]; rfl
  | coe r =>
    have hr : 0 ≤ r := by exact_mod_cast ha
    rcases hr.eq_or_lt with rfl | hr
    · refine Or.inl ⟨rfl, ?_⟩
      unfold lexp
      rw [div_log2, hce, ← EReal.coe_mul, zero_mul, Ideal.log_coe, if_pos le_rfl, EReal.bot_mul_coe_of_pos h2]; rfl
    · refine Or.inr (Or.inr ⟨by exact_mod_cast hr.ne', ?_⟩)
      have : 0 < r * c := mul_pos hr hc
      unfold lexp
      rw [div_log2, hce, ← EReal.coe_mul, Ideal.log_coe, if_neg (not_le.mpr this), ← EReal.coe_mul]
      exact ⟨_, rfl⟩

/-- The comparison `oeq` is the bit of equality. -/
theorem cmp_oeq_pos {x y : EReal} (h : x = y) : Ideal.cmp .oeq x y = 1#1 := by simp [Ideal.cmp, h]

/-- The comparison `oeq` of different values is the bit 0. -/
theorem cmp_oeq_neg {x y : EReal} (h : x ≠ y) : Ideal.cmp .oeq x y = 0#1 := by simp [Ideal.cmp, h]

/-- THE SCALE: on a magnitude (a value not below 0) the kernel's scale is two to the reference's exponent. -/
theorem sclK_eq (a : EReal) (ha : 0 ≤ a) : sclK a = Ideal.pow (Ideal.ofBits .f32 0x40000000#32) (expR a) := by
  rcases lexp_cases a ha with ⟨h0, h⟩ | ⟨h0, h⟩ | ⟨h0, z, h⟩
  · have e : ebK a = 0 := by unfold ebK; rw [h]; rfl
    unfold sclK expR
    rw [e, cmp_oeq_pos (by rw [Ideal.ofBits_zero_f32]), cmp_oeq_pos (by rw [h0, Ideal.ofBits_zero_f32]), select_one, select_one,
      ofBits_two, Ideal.ofBits_zero_f32, ofBits_one, ← EReal.coe_zero]
    show _ = ((Real.rpow 2 0 : ℝ) : EReal)
    rw [show Real.rpow 2 0 = 1 from Real.rpow_zero 2]
  · have e : ebK a = ⊤ := by unfold ebK; rw [h]; rfl
    unfold sclK expR
    rw [e, h, cmp_oeq_neg (by rw [Ideal.ofBits_zero_f32]; simp), cmp_oeq_neg (by rw [h0, Ideal.ofBits_zero_f32]; simp), select_zero, select_zero,
      ofBits_two, ofBits_one, EReal.top_mul_coe_of_pos (by norm_num), EReal.top_add_coe]
    show _ = (if (2 : ℝ) < 0 then ⊥ else if (1 : ℝ) < 2 then ⊤ else if (2 : ℝ) = 1 then 1 else 0)
    norm_num
  · have e : ebK a = ((2 : ℝ) ^ z : ℝ) := by unfold ebK; rw [h]; rfl
    have hp : (0 : ℝ) < (2 : ℝ) ^ z := Real.rpow_pos_of_pos (by norm_num) z
    unfold sclK expR
    rw [e, h, cmp_oeq_neg (by rw [Ideal.ofBits_zero_f32]; exact_mod_cast hp.ne'), cmp_oeq_neg (by rw [Ideal.ofBits_zero_f32]; exact h0), select_zero, select_zero,
      ofBits_two, ofBits_one, ← EReal.coe_mul, ← EReal.coe_add]
    show _ = ((Real.rpow 2 (z + 1) : ℝ) : EReal)
    rw [show Real.rpow 2 (z + 1) = (2 : ℝ) ^ z * 2 from by
      show (2 : ℝ) ^ (z + 1) = _
      rw [Real.rpow_add (by norm_num), Real.rpow_one]]

/-- THE INVERSE SCALE: on a magnitude the kernel's inverse is two to minus the reference's exponent. -/
theorem invK_eq (a : EReal) (ha : 0 ≤ a) : invK a = Ideal.pow (Ideal.ofBits .f32 0x40000000#32) (-(expR a)) := by
  rcases lexp_cases a ha with ⟨h0, h⟩ | ⟨h0, h⟩ | ⟨h0, z, h⟩
  · have e : ebK a = 0 := by unfold ebK; rw [h]; rfl
    unfold invK expR
    rw [e, cmp_oeq_pos (by rw [Ideal.ofBits_zero_f32]), cmp_oeq_pos (by rw [h0, Ideal.ofBits_zero_f32]), select_one, select_one,
      ofBits_two, Ideal.ofBits_zero_f32, ofBits_one, neg_zero, ← EReal.coe_zero]
    show _ = ((Real.rpow 2 0 : ℝ) : EReal)
    rw [show Real.rpow 2 0 = 1 from Real.rpow_zero 2]
  · have e : ebK a = ⊤ := by unfold ebK; rw [h]; rfl
    unfold invK expR
    rw [e, h, cmp_oeq_neg (by rw [Ideal.ofBits_zero_f32]; simp), cmp_oeq_neg (by rw [h0, Ideal.ofBits_zero_f32]; simp), select_zero, select_zero,
      ofBits_two, ofBits_one, ofBits_half, EReal.top_add_coe, EReal.neg_top]
    show Ideal.div _ _ = (if (2 : ℝ) < 0 then ⊥ else if (1 : ℝ) < 2 then 0 else if (2 : ℝ) = 1 then 1 else ⊤)
    unfold Ideal.div
    rw [if_neg (by simp), EReal.inv_top, mul_zero]; norm_num
  · have e : ebK a = ((2 : ℝ) ^ z : ℝ) := by unfold ebK; rw [h]; rfl
    have hp : (0 : ℝ) < (2 : ℝ) ^ z := Real.rpow_pos_of_pos (by norm_num) z
    unfold invK expR
    rw [e, h, cmp_oeq_neg (by rw [Ideal.ofBits_zero_f32]; exact_mod_cast hp.ne'), cmp_oeq_neg (by rw [Ideal.ofBits_zero_f32]; exact h0), select_zero, select_zero,
      ofBits_two, ofBits_one, ofBits_half, ← EReal.coe_add, ← EReal.coe_neg]
    unfold Ideal.div
    rw [if_neg (by exact_mod_cast hp.ne'), ← EReal.coe_inv, ← EReal.coe_mul]
    show _ = ((Real.rpow 2 (-(z + 1)) : ℝ) : EReal)
    rw [show Real.rpow 2 (-(z + 1)) = 1 / 2 * ((2 : ℝ) ^ z)⁻¹ from by
      show (2 : ℝ) ^ (-(z + 1)) = _
      rw [Real.rpow_neg (by norm_num), Real.rpow_add (by norm_num), Real.rpow_one, mul_inv]; ring]

end Cert.Hand

end
-- ==== Proof.Chunk.lean ====
module

public import proofs.«01_k».proof.Proof.Gen.KernelIdeal.Skeleton
public import proofs.«01_k».proof.Proof.Scale
public import Idealize.ShloMosaic.Lib.Writes
public import Idealize.ShloMosaic.Lib.ValueLayout
public import Idealize.ShloMosaic.Lib.Pipeline.Value
public import Idealize.ShloMosaic.Lib.Pointwise

@[expose] public section

noncomputable section

namespace Cert.KernelIdeal.Hand

open Cert.KernelIdeal Cert.KernelIdeal.Gen Cert.Hand
open Idealize.ShloMosaic

section Defs
variable {F : FTy → Type} [FloatOps F]

/-- The largest entries of 32 rows of the magnitudes `ab`, from row `o` on. -/
def gmax (ab : FVec F S256x256 .f32) (o : Nat) (h : S256x256.Slices ![o, 0] S32x256) : FVec F S1x256 .f32 :=
  shapeCast S1x256 (multiReduction .maximumf [0] S256 (extractStridedSlice S32x256 ![o, 0] ab h) 0xFF800000#32
    reduces_S32x256_S256 (.inl rfl) rfl) shapeCasts_S256_S1x256

/-- The largest magnitudes of the four heads of a chunk. -/
def headMax (y : FVec F S256x256 .f32) : FVec F S4x256 .f32 :=
  concatenate S4x256 0
    [⟨S1x256, maximumf (gmax (absf y) 0 slices_S256x256_o0_0_S32x256) (gmax (absf y) 32 slices_S256x256_o32_0_S32x256)⟩,
     ⟨S1x256, maximumf (gmax (absf y) 64 slices_S256x256_o64_0_S32x256) (gmax (absf y) 96 slices_S256x256_o96_0_S32x256)⟩,
     ⟨S1x256, maximumf (gmax (absf y) 128 slices_S256x256_o128_0_S32x256) (gmax (absf y) 160 slices_S256x256_o160_0_S32x256)⟩,
     ⟨S1x256, maximumf (gmax (absf y) 192 slices_S256x256_o192_0_S32x256) (gmax (absf y) 224 slices_S256x256_o224_0_S32x256)⟩]
    concatenates_S1x256_S1x256_S1x256_S1x256_S4x256_d0

/-- The power of two of each head's largest magnitude. -/
def ebV (y : FVec F S256x256 .f32) : FVec F S4x256 .f32 :=
  exp2 (floor (divf (log (mulf (headMax y) (broadcast S4x256 (Scalar.ofBits .f32 0x3B124925#32))))
    (log (broadcast S4x256 (Scalar.ofBits .f32 0x40000000#32)))))

/-- Where that power is 0. -/
def zeroV (y : FVec F S256x256 .f32) : IVec S4x256 1 :=
  cmpf .oeq (ebV y) (broadcast S4x256 (Scalar.ofBits .f32 0x00000000#32))

/-- The scales of the four heads. -/
def scaleV (y : FVec F S256x256 .f32) : FVec F S4x256 .f32 :=
  select (zeroV y) (broadcast S4x256 (Scalar.ofBits .f32 0x3F800000#32))
    (mulf (ebV y) (broadcast S4x256 (Scalar.ofBits .f32 0x40000000#32)))

/-- The inverse scales of the four heads. -/
def invV (y : FVec F S256x256 .f32) : FVec F S4x256 .f32 :=
  select (zeroV y) (broadcast S4x256 (Scalar.ofBits .f32 0x3F800000#32))
    (divf (broadcast S4x256 (Scalar.ofBits .f32 0x3F000000#32)) (ebV y))

/-- The clipped quotients of the head in the rows from `o` on, whose inverse scale is in row `j`. -/
def rowV (y : FVec F S256x256 .f32) (o j : Nat) (h : S256x256.Slices ![o, 0] S64x256) (hj : S4x256.Slices ![j, 0] S1x256) :
    FVec F S64x256 .f32 :=
  minimumf (broadcast S64x256 (Scalar.ofBits .f32 0x43E00000#32))
    (maximumf (broadcast S64x256 (Scalar.ofBits .f32 0xC3E00000#32))
      (mulf (extractStridedSlice S64x256 ![o, 0] y h)
        (broadcastTo S64x256 (extractStridedSlice S1x256 ![j, 0] (invV y) hj) broadcasts_S1x256_S64x256)))

/-- The fp8 codes of a chunk. -/
def codesV (y : FVec F S256x256 .f32) : FVec F S256x256 .fp8e4m3 :=
  truncf .fp8e4m3 (concatenate S256x256 0
    [⟨S64x256, rowV y 0 0 slices_S256x256_o0_0_S64x256 slices_S4x256_o0_0_S1x256⟩,
     ⟨S64x256, rowV y 64 1 slices_S256x256_o64_0_S64x256 slices_S4x256_o1_0_S1x256⟩,
     ⟨S64x256, rowV y 128 2 slices_S256x256_o128_0_S64x256 slices_S4x256_o2_0_S1x256⟩,
     ⟨S64x256, rowV y 192 3 slices_S256x256_o192_0_S64x256 slices_S4x256_o3_0_S1x256⟩]
    concatenates_S64x256_S64x256_S64x256_S64x256_S256x256_d0) bitsLt_fp8e4m3_f32

/-- The scales stored for row `r` of the block: columns `o` to `o + 127`. -/
def scaleP (y : FVec F S256x256 .f32) (o : Nat) (h : S4x256.Slices ![0, o] S4x128) : FVec F S1x4x128 .f32 :=
  shapeCast S1x4x128 (extractStridedSlice S4x128 ![0, o] (scaleV y) h) shapeCasts_S4x128_S1x4x128

/-- The codes stored for row `r` of the block: columns `o` to `o + 127`. -/
def codeP (y : FVec F S256x256 .f32) (o : Nat) (h : S256x256.Slices ![0, o] S256x128) : FVec F S1x256x128 .fp8e4m3 :=
  shapeCast S1x256x128 (extractStridedSlice S256x128 ![0, o] (codesV y) h) shapeCasts_S256x128_S1x256x128

/-- Chunk of a product: its 256 rows from `o` on. -/
abbrev chunk (o : Nat) (h : S1024x256.Slices ![o, 0] S256x256) (yall : FVec F S1024x256 .f32) : FVec F S256x256 .f32 :=
  extractStridedSlice S256x256 ![o, 0] yall h

/-- The eight pieces of a code block, last first. -/
def codePieces (y : FVec F S1024x256 .f32) : List (View.Piece (Elt F) S2x1024x128 .fp8e4m3) :=
  [⟨Rect.unit (s := S2x1024x128) ![1, 768, 0] S1x256x128.size inb_S2x1024x128_S1x256x128_1_768_0, codeP (chunk 768 slices_S1024x256_o768_0_S256x256 y) 128 slices_S256x256_o0_128_S256x128⟩,
   ⟨Rect.unit (s := S2x1024x128) ![0, 768, 0] S1x256x128.size inb_S2x1024x128_S1x256x128_0_768_0, codeP (chunk 768 slices_S1024x256_o768_0_S256x256 y) 0 slices_S256x256_o0_0_S256x128⟩,
   ⟨Rect.unit (s := S2x1024x128) ![1, 512, 0] S1x256x128.size inb_S2x1024x128_S1x256x128_1_512_0, codeP (chunk 512 slices_S1024x256_o512_0_S256x256 y) 128 slices_S256x256_o0_128_S256x128⟩,
   ⟨Rect.unit (s := S2x1024x128) ![0, 512, 0] S1x256x128.size inb_S2x1024x128_S1x256x128_0_512_0, codeP (chunk 512 slices_S1024x256_o512_0_S256x256 y) 0 slices_S256x256_o0_0_S256x128⟩,
   ⟨Rect.unit (s := S2x1024x128) ![1, 256, 0] S1x256x128.size inb_S2x1024x128_S1x256x128_1_256_0, codeP (chunk 256 slices_S1024x256_o256_0_S256x256 y) 128 slices_S256x256_o0_128_S256x128⟩,
   ⟨Rect.unit (s := S2x1024x128) ![0, 256, 0] S1x256x128.size inb_S2x1024x128_S1x256x128_0_256_0, codeP (chunk 256 slices_S1024x256_o256_0_S256x256 y) 0 slices_S256x256_o0_0_S256x128⟩,
   ⟨Rect.unit (s := S2x1024x128) ![1, 0, 0] S1x256x128.size inb_S2x1024x128_S1x256x128_1_0_0, codeP (chunk 0 slices_S1024x256_o0_0_S256x256 y) 128 slices_S256x256_o0_128_S256x128⟩,
   ⟨Rect.unit (s := S2x1024x128) ![0, 0, 0] S1x256x128.size inb_S2x1024x128_S1x256x128_0_0_0, codeP (chunk 0 slices_S1024x256_o0_0_S256x256 y) 0 slices_S256x256_o0_0_S256x128⟩]

/-- The eight pieces of a scale block, last first. -/
def scalePieces (y : FVec F S1024x256 .f32) : List (View.Piece (Elt F) S2x16x128 .f32) :=
  [⟨Rect.unit (s := S2x16x128) ![1, 12, 0] S1x4x128.size inb_S2x16x128_S1x4x128_1_12_0, scaleP (chunk 768 slices_S1024x256_o768_0_S256x256 y) 128 slices_S4x256_o0_128_S4x128⟩,
   ⟨Rect.unit (s := S2x16x128) ![0, 12, 0] S1x4x128.size inb_S2x16x128_S1x4x128_0_12_0, scaleP (chunk 768 slices_S1024x256_o768_0_S256x256 y) 0 slices_S4x256_o0_0_S4x128⟩,
   ⟨Rect.unit (s := S2x16x128) ![1, 8, 0] S1x4x128.size inb_S2x16x128_S1x4x128_1_8_0, scaleP (chunk 512 slices_S1024x256_o512_0_S256x256 y) 128 slices_S4x256_o0_128_S4x128⟩,
   ⟨Rect.unit (s := S2x16x128) ![0, 8, 0] S1x4x128.size inb_S2x16x128_S1x4x128_0_8_0, scaleP (chunk 512 slices_S1024x256_o512_0_S256x256 y) 0 slices_S4x256_o0_0_S4x128⟩,
   ⟨Rect.unit (s := S2x16x128) ![1, 4, 0] S1x4x128.size inb_S2x16x128_S1x4x128_1_4_0, scaleP (chunk 256 slices_S1024x256_o256_0_S256x256 y) 128 slices_S4x256_o0_128_S4x128⟩,
   ⟨Rect.unit (s := S2x16x128) ![0, 4, 0] S1x4x128.size inb_S2x16x128_S1x4x128_0_4_0, scaleP (chunk 256 slices_S1024x256_o256_0_S256x256 y) 0 slices_S4x256_o0_0_S4x128⟩,
   ⟨Rect.unit (s := S2x16x128) ![1, 0, 0] S1x4x128.size inb_S2x16x128_S1x4x128_1_0_0, scaleP (chunk 0 slices_S1024x256_o0_0_S256x256 y) 128 slices_S4x256_o0_128_S4x128⟩,
   ⟨Rect.unit (s := S2x16x128) ![0, 0, 0] S1x4x128.size inb_S2x16x128_S1x4x128_0_0_0, scaleP (chunk 0 slices_S1024x256_o0_0_S256x256 y) 0 slices_S4x256_o0_0_S4x128⟩]

end Defs

/-! ## The elements over the extended reals -/

/-- The largest magnitude of the 64 entries of a head. -/
def hmax (f : Fin 64 → EReal) : EReal := Finset.univ.sup fun i => max (f i) (-(f i))

/-- The clipped quotient the fp8 code of entry `i` of a head rounds. -/
def code (f : Fin 64 → EReal) (i : Fin 64) : EReal :=
  min (Ideal.ofBits .f32 0x43E00000#32) (max (Ideal.ofBits .f32 0xC3E00000#32) (f i * invK (hmax f)))

/-- A largest magnitude is not below 0. -/
theorem hmax_nonneg (f : Fin 64 → EReal) : 0 ≤ hmax f := by
  have h : (0 : EReal) ≤ max (f 0) (-(f 0)) := by
    rcases le_total 0 (f 0) with h | h
    · exact le_max_of_le_left h
    · exact le_max_of_le_right (by simpa using EReal.neg_le_neg_iff.mpr h)
  exact h.trans (Finset.le_sup (f := fun i => max (f i) (-(f i))) (Finset.mem_univ 0))

/-- The f32 pattern of −∞ is −∞. -/
theorem ofBits_ninf : Ideal.ofBits .f32 0xFF800000#32 = ⊥ := by simp [Ideal.ofBits, Ideal.ieee]

/-- A maximum over 32 rows, read at an entry. -/
theorem gmax_apply (ab : FVec Ideal S256x256 .f32) (o : Nat) (h : S256x256.Slices ![o, 0] S32x256) (ho : o + 32 ≤ 256)
    (u : Fin 1) (n : Fin 256) :
    gmax ab o h (ix2 u n) = Finset.univ.sup fun k : Fin 32 => ab (ix2 (⟨o + k.val, by omega⟩ : Fin 256) n) := by
  unfold gmax
  rw [shapeCast_apply (k := ix1 n) (hk := by
    rw [Shape.rowMajor_val_two, Shape.rowMajor_val_one]; show n.val = u.val * 256 + n.val; have := u.isLt; omega)]
  refine (multiReduction_maximumf_eq_fold _ _ _ _ _ _).trans ?_
  rw [Shape.Reduces.fold_fiber_r2_a0]
  show Finset.fold max (Ideal.ofBits .f32 0xFF800000#32) _ _ = _
  rw [ofBits_ninf]
  show Finset.sup _ _ = _
  refine Finset.sup_congr rfl fun k _ => ?_
  exact extractStridedSlice_apply _ _ _ _ _ (fun a => by
    match a with
    | ⟨0, _⟩ => rfl
    | ⟨1, _⟩ => exact (Nat.zero_add _).symm)

/-- The maximum over 64 is the larger of the maxima over its two halves. -/
theorem sup_halves (g : Fin 64 → EReal) :
    max (Finset.univ.sup fun k : Fin 32 => g ⟨k.val, by omega⟩) (Finset.univ.sup fun k : Fin 32 => g ⟨32 + k.val, by omega⟩)
      = Finset.univ.sup g := by
  apply le_antisymm
  · refine max_le (Finset.sup_le fun k _ => ?_) (Finset.sup_le fun k _ => ?_)
    · exact Finset.le_sup (f := g) (Finset.mem_univ _)
    · exact Finset.le_sup (f := g) (Finset.mem_univ _)
  · refine Finset.sup_le fun i _ => ?_
    by_cases hi : i.val < 32
    · exact le_max_of_le_left (Finset.le_sup (f := fun k : Fin 32 => g ⟨k.val, by omega⟩) (Finset.mem_univ ⟨i.val, hi⟩))
    · refine le_max_of_le_right ?_
      have := Finset.le_sup (f := fun k : Fin 32 => g ⟨32 + k.val, by omega⟩) (Finset.mem_univ ⟨i.val - 32, by omega⟩)
      convert this using 2
      exact Fin.ext (by show i.val = 32 + (i.val - 32); omega)

/-- Two neighbouring groups' maxima give the head's. -/
theorem gmax_pair (y : FVec Ideal S256x256 .f32) (o o' : Nat) (h : S256x256.Slices ![o, 0] S32x256)
    (h' : S256x256.Slices ![o', 0] S32x256) (ho : o + 64 ≤ 256) (e : o' = o + 32) (u : Fin 1) (n : Fin 256) :
    maximumf (gmax (absf y) o h) (gmax (absf y) o' h') (ix2 u n)
      = hmax fun i => y (ix2 (⟨o + i.val, by omega⟩ : Fin 256) n) := by
  subst e
  show max (gmax (absf y) o h (ix2 u n)) (gmax (absf y) (o + 32) h' (ix2 u n)) = _
  rw [gmax_apply _ _ _ (by omega), gmax_apply _ _ _ (by omega)]
  unfold hmax
  rw [← sup_halves]
  refine congrArg (max _) (Finset.sup_congr rfl fun k _ => ?_)
  have e : (⟨o + 32 + k.val, by omega⟩ : Fin 256) = ⟨o + (32 + k.val), by omega⟩ := Fin.ext (by show o + 32 + k.val = o + (32 + k.val); omega)
  rw [e]; rfl

/-- Four rows stacked, read at an entry. -/
theorem stack4 {α : Type} (a b c d : S1x256.Idx → α) (h) (j : Fin 4) (n : Fin 256) :
    concatenate S4x256 0 [⟨S1x256, a⟩, ⟨S1x256, b⟩, ⟨S1x256, c⟩, ⟨S1x256, d⟩] h (ix2 j n)
      = (![a, b, c, d] : Fin 4 → S1x256.Idx → α) j (ix2 0 n) := by
  have hb : ∀ b : Fin 2, b.cast rfl ≠ (0 : Fin 2) → ((ix2 (0 : Fin 1) n : S1x256.Idx) b).val = ((ix2 j n : S4x256.Idx) (b.cast rfl)).val := by
    intro b hb
    match b with
    | ⟨0, _⟩ => exact absurd rfl hb
    | ⟨1, _⟩ => rfl
  match j with
  | ⟨0, _⟩ => exact concatenate_apply_piece (t := S4x256) 0 _ h (ix2 _ n) 0 (show 0 < 4 by decide) S1x256 a rfl rfl 0 rfl (ix2 0 n) hb rfl
  | ⟨1, _⟩ => exact concatenate_apply_piece (t := S4x256) 0 _ h (ix2 _ n) 1 (show 1 < 4 by decide) S1x256 b rfl rfl 1 rfl (ix2 0 n) hb rfl
  | ⟨2, _⟩ => exact concatenate_apply_piece (t := S4x256) 0 _ h (ix2 _ n) 2 (show 2 < 4 by decide) S1x256 c rfl rfl 2 rfl (ix2 0 n) hb rfl
  | ⟨3, _⟩ => exact concatenate_apply_piece (t := S4x256) 0 _ h (ix2 _ n) 3 (show 3 < 4 by decide) S1x256 d rfl rfl 3 rfl (ix2 0 n) hb rfl

/-- Four groups of 64 rows stacked, read at an entry. -/
theorem stack64 {α : Type} (a b c d : S64x256.Idx → α) (h) (j : Fin 4) (i : Fin 64) (n : Fin 256) :
    concatenate S256x256 0 [⟨S64x256, a⟩, ⟨S64x256, b⟩, ⟨S64x256, c⟩, ⟨S64x256, d⟩] h (ix2 (⟨64 * j.val + i.val, by omega⟩ : Fin 256) n)
      = (![a, b, c, d] : Fin 4 → S64x256.Idx → α) j (ix2 i n) := by
  have hb : ∀ p : Fin 256, ∀ b : Fin 2, b.cast rfl ≠ (0 : Fin 2) → ((ix2 i n : S64x256.Idx) b).val = ((ix2 p n : S256x256.Idx) (b.cast rfl)).val := by
    intro p b hb
    match b with
    | ⟨0, _⟩ => exact absurd rfl hb
    | ⟨1, _⟩ => rfl
  match j with
  | ⟨0, _⟩ => exact concatenate_apply_piece (t := S256x256) 0 _ h (ix2 _ n) 0 (show 0 < 4 by decide) S64x256 a rfl rfl 0 rfl (ix2 i n) (hb _) rfl
  | ⟨1, _⟩ => exact concatenate_apply_piece (t := S256x256) 0 _ h (ix2 _ n) 1 (show 1 < 4 by decide) S64x256 b rfl rfl 64 rfl (ix2 i n) (hb _) rfl
  | ⟨2, _⟩ => exact concatenate_apply_piece (t := S256x256) 0 _ h (ix2 _ n) 2 (show 2 < 4 by decide) S64x256 c rfl rfl 128 rfl (ix2 i n) (hb _) rfl
  | ⟨3, _⟩ => exact concatenate_apply_piece (t := S256x256) 0 _ h (ix2 _ n) 3 (show 3 < 4 by decide) S64x256 d rfl rfl 192 rfl (ix2 i n) (hb _) rfl

/-- The entries of head `j` of a chunk at column `n`. -/
abbrev headOf (y : FVec Ideal S256x256 .f32) (j : Fin 4) (n : Fin 256) (i : Fin 64) : EReal :=
  y (ix2 (⟨64 * j.val + i.val, by omega⟩ : Fin 256) n)

/-- Each head's largest magnitude. -/
theorem headMax_apply (y : FVec Ideal S256x256 .f32) (j : Fin 4) (n : Fin 256) :
    headMax y (ix2 j n) = hmax (headOf y j n) := by
  unfold headMax
  rw [stack4]
  match j with
  | ⟨0, _⟩ => exact gmax_pair y 0 32 _ _ (by norm_num) rfl 0 n
  | ⟨1, _⟩ => exact gmax_pair y 64 96 _ _ (by norm_num) rfl 0 n
  | ⟨2, _⟩ => exact gmax_pair y 128 160 _ _ (by norm_num) rfl 0 n
  | ⟨3, _⟩ => exact gmax_pair y 192 224 _ _ (by norm_num) rfl 0 n

/-- Each head's scale. -/
theorem scaleV_apply (y : FVec Ideal S256x256 .f32) (j : Fin 4) (n : Fin 256) :
    scaleV y (ix2 j n) = sclK (hmax (headOf y j n)) := by
  rw [← headMax_apply]; rfl

/-- Each head's inverse scale. -/
theorem invV_apply (y : FVec Ideal S256x256 .f32) (j : Fin 4) (n : Fin 256) :
    invV y (ix2 j n) = invK (hmax (headOf y j n)) := by
  rw [← headMax_apply]; rfl

/-- A head's clipped quotients. -/
theorem rowV_apply (y : FVec Ideal S256x256 .f32) (j : Fin 4) (o j' : Nat) (h hj) (ho : o = 64 * j.val) (hj' : j' = j.val)
    (i : Fin 64) (n : Fin 256) :
    rowV y o j' h hj (ix2 i n) = code (headOf y j n) i := by
  subst ho hj'
  show min _ (max _ (extractStridedSlice S64x256 ![64 * j.val, 0] y h (ix2 i n) *
    broadcastTo S64x256 (extractStridedSlice S1x256 ![j.val, 0] (invV y) hj) broadcasts_S1x256_S64x256 (ix2 i n))) = _
  rw [broadcastTo_apply (k := ix2 (0 : Fin 1) n) (hk := fun a => by
    match a with
    | ⟨0, _⟩ => rfl
    | ⟨1, _⟩ => rfl)]
  rw [extractStridedSlice_apply (k := ix2 (⟨64 * j.val + i.val, by omega⟩ : Fin 256) n) (hk := fun a => by
    match a with
    | ⟨0, _⟩ => rfl
    | ⟨1, _⟩ => exact (Nat.zero_add _).symm)]
  rw [extractStridedSlice_apply (k := ix2 j n) (hk := fun a => by
    match a with
    | ⟨0, _⟩ => rfl
    | ⟨1, _⟩ => exact (Nat.zero_add _).symm)]
  rw [invV_apply]; rfl

/-- The codes of a chunk. -/
theorem codesV_apply (y : FVec Ideal S256x256 .f32) (j : Fin 4) (i : Fin 64) (n : Fin 256) :
    codesV y (ix2 (⟨64 * j.val + i.val, by omega⟩ : Fin 256) n) = code (headOf y j n) i := by
  refine (stack64 _ _ _ _ concatenates_S64x256_S64x256_S64x256_S64x256_S256x256_d0 j i n).trans ?_
  match j with
  | ⟨0, _⟩ => exact rowV_apply y 0 0 0 _ _ rfl rfl i n
  | ⟨1, _⟩ => exact rowV_apply y 1 64 1 _ _ rfl rfl i n
  | ⟨2, _⟩ => exact rowV_apply y 2 128 2 _ _ rfl rfl i n
  | ⟨3, _⟩ => exact rowV_apply y 3 192 3 _ _ rfl rfl i n

/-- The head a row of a product belongs to, at a column. -/
abbrev headAll (y : FVec Ideal S1024x256 .f32) (h : Fin 16) (n : Fin 256) (i : Fin 64) : EReal :=
  y (ix2 (⟨64 * h.val + i.val, by omega⟩ : Fin 1024) n)

/-- WHAT A STEP STORES as codes, from the product of its rows: at row `r`, channel `d`, batch `b`. -/
def codeG (y : FVec Ideal S1024x256 .f32) : S2x1024x128.Idx → EReal := fun x =>
  code (headAll y ⟨(x 1).val / 64, by have : (x 1).val < 1024 := (x 1).isLt; omega⟩
    ⟨128 * (x 0).val + (x 2).val, by have h0 : (x 0).val < 2 := (x 0).isLt; have h2 : (x 2).val < 128 := (x 2).isLt; omega⟩)
    ⟨(x 1).val % 64, Nat.mod_lt _ (by norm_num)⟩

/-- WHAT A STEP STORES as scales, from the product of its rows: at row `r`, head `h`, batch `b`. -/
def scaleG (y : FVec Ideal S1024x256 .f32) : S2x16x128.Idx → EReal := fun x =>
  sclK (hmax (headAll y ⟨(x 1).val, (x 1).isLt⟩
    ⟨128 * (x 0).val + (x 2).val, by have h0 : (x 0).val < 2 := (x 0).isLt; have h2 : (x 2).val < 128 := (x 2).isLt; omega⟩))

/-- A leading unit axis added, read at an entry. -/
theorem shapeCast_ix {α : Type} {a b : ℕ} (x : (⟨2, ![a, b]⟩ : Shape).Idx → α)
    (h : (⟨2, ![a, b]⟩ : Shape).ShapeCasts ⟨3, ![1, a, b]⟩) (u : Fin 1) (i : Fin a) (j : Fin b) :
    shapeCast ⟨3, ![1, a, b]⟩ x h (ix3 u i j) = x (ix2 i j) :=
  ValueIdx.shapeCast_ab_1ab_apply x h u i j

/-- One scale piece is the part of `scaleG` it covers. -/
theorem scaleP_emb (y : FVec Ideal S1024x256 .f32) (r c : Nat) (hr : r < 2) (hc : c < 4) (o o' : Nat) (ho : o = 256 * c) (ho' : o' = 128 * r)
    (h h') (q : Nat) (hq : q = 4 * c) (inb) (x : S1x4x128.Idx) :
    scaleP (chunk o h y) o' h' x = scaleG y ((Rect.unit (s := S2x16x128) ![r, q, 0] S1x4x128.size inb).emb x) := by
  subst ho ho' hq
  obtain ⟨u, j, b, rfl⟩ : ∃ (u : Fin 1) (j : Fin 4) (b : Fin 128), x = ix3 u j b := ⟨_, _, _, eq_ix3 x⟩
  unfold scaleP
  rw [shapeCast_ix, extractStridedSlice_apply (k := ix2 j (⟨128 * r + b.val, by omega⟩ : Fin 256)) (hk := fun a => by
    match a with
    | ⟨0, _⟩ => exact (Nat.zero_add _).symm
    | ⟨1, _⟩ => rfl), scaleV_apply]
  have hu : u.val = 0 := by omega
  unfold scaleG
  congr 2
  funext i
  refine (extractStridedSlice_apply _ _ _ _ _ (fun a => ?_))
  match a with
  | ⟨0, _⟩ => show 64 * (4 * c + 1 * j.val) + i.val = 256 * c + (64 * j.val + i.val); omega
  | ⟨1, _⟩ => show 128 * (r + 1 * u.val) + (0 + 1 * b.val) = 0 + (128 * r + b.val); omega

/-- One code piece is the part of `codeG` it covers. -/
theorem codeP_emb (y : FVec Ideal S1024x256 .f32) (r c : Nat) (hr : r < 2) (hc : c < 4) (o o' : Nat) (ho : o = 256 * c) (ho' : o' = 128 * r)
    (h h') (inb) (x : S1x256x128.Idx) :
    codeP (chunk o h y) o' h' x = codeG y ((Rect.unit (s := S2x1024x128) ![r, o, 0] S1x256x128.size inb).emb x) := by
  subst ho ho'
  obtain ⟨u, p, b, rfl⟩ : ∃ (u : Fin 1) (p : Fin 256) (b : Fin 128), x = ix3 u p b := ⟨_, _, _, eq_ix3 x⟩
  unfold codeP
  have hu : u.val = 0 := by omega
  have hp : p = (⟨64 * (⟨p.val / 64, by omega⟩ : Fin 4).val + (⟨p.val % 64, by omega⟩ : Fin 64).val, by show 64 * (p.val / 64) + p.val % 64 < 256; omega⟩ : Fin 256) :=
    Fin.ext (by show p.val = 64 * (p.val / 64) + p.val % 64; omega)
  rw [shapeCast_ix, extractStridedSlice_apply (k := ix2 p (⟨128 * r + b.val, by omega⟩ : Fin 256)) (hk := fun a => by
    match a with
    | ⟨0, _⟩ => exact (Nat.zero_add _).symm
    | ⟨1, _⟩ => rfl)]
  conv_lhs => rw [hp]
  rw [codesV_apply]
  unfold codeG
  congr 1
  · funext i
    refine (extractStridedSlice_apply _ _ _ _ _ (fun a => ?_))
    match a with
    | ⟨0, _⟩ => show 64 * ((256 * c + 1 * p.val) / 64) + i.val = 256 * c + (64 * (p.val / 64) + i.val); omega
    | ⟨1, _⟩ => show 128 * (r + 1 * u.val) + (0 + 1 * b.val) = 0 + (128 * r + b.val); omega
  · exact Fin.ext (by show p.val % 64 = (256 * c + 1 * p.val) % 64; omega)

/-- Every code piece agrees with `codeG`. -/
theorem codePieces_emb (y : FVec Ideal S1024x256 .f32) : ∀ p ∈ codePieces y, ∀ x : p.1.shape.Idx, p.2 x = codeG y (p.1.emb x) := by
  intro p hp
  simp only [codePieces, List.mem_cons, List.not_mem_nil, or_false] at hp
  rcases hp with rfl | rfl | rfl | rfl | rfl | rfl | rfl | rfl
  · intro x; exact codeP_emb y 1 3 (by norm_num) (by norm_num) 768 128 rfl rfl slices_S1024x256_o768_0_S256x256 slices_S256x256_o0_128_S256x128 inb_S2x1024x128_S1x256x128_1_768_0 x
  · intro x; exact codeP_emb y 0 3 (by norm_num) (by norm_num) 768 0 rfl rfl slices_S1024x256_o768_0_S256x256 slices_S256x256_o0_0_S256x128 inb_S2x1024x128_S1x256x128_0_768_0 x
  · intro x; exact codeP_emb y 1 2 (by norm_num) (by norm_num) 512 128 rfl rfl slices_S1024x256_o512_0_S256x256 slices_S256x256_o0_128_S256x128 inb_S2x1024x128_S1x256x128_1_512_0 x
  · intro x; exact codeP_emb y 0 2 (by norm_num) (by norm_num) 512 0 rfl rfl slices_S1024x256_o512_0_S256x256 slices_S256x256_o0_0_S256x128 inb_S2x1024x128_S1x256x128_0_512_0 x
  · intro x; exact codeP_emb y 1 1 (by norm_num) (by norm_num) 256 128 rfl rfl slices_S1024x256_o256_0_S256x256 slices_S256x256_o0_128_S256x128 inb_S2x1024x128_S1x256x128_1_256_0 x
  · intro x; exact codeP_emb y 0 1 (by norm_num) (by norm_num) 256 0 rfl rfl slices_S1024x256_o256_0_S256x256 slices_S256x256_o0_0_S256x128 inb_S2x1024x128_S1x256x128_0_256_0 x
  · intro x; exact codeP_emb y 1 0 (by norm_num) (by norm_num) 0 128 rfl rfl slices_S1024x256_o0_0_S256x256 slices_S256x256_o0_128_S256x128 inb_S2x1024x128_S1x256x128_1_0_0 x
  · intro x; exact codeP_emb y 0 0 (by norm_num) (by norm_num) 0 0 rfl rfl slices_S1024x256_o0_0_S256x256 slices_S256x256_o0_0_S256x128 inb_S2x1024x128_S1x256x128_0_0_0 x

/-- Every scale piece agrees with `scaleG`. -/
theorem scalePieces_emb (y : FVec Ideal S1024x256 .f32) : ∀ p ∈ scalePieces y, ∀ x : p.1.shape.Idx, p.2 x = scaleG y (p.1.emb x) := by
  intro p hp
  simp only [scalePieces, List.mem_cons, List.not_mem_nil, or_false] at hp
  rcases hp with rfl | rfl | rfl | rfl | rfl | rfl | rfl | rfl
  · intro x; exact scaleP_emb y 1 3 (by norm_num) (by norm_num) 768 128 rfl rfl slices_S1024x256_o768_0_S256x256 slices_S4x256_o0_128_S4x128 12 rfl inb_S2x16x128_S1x4x128_1_12_0 x
  · intro x; exact scaleP_emb y 0 3 (by norm_num) (by norm_num) 768 0 rfl rfl slices_S1024x256_o768_0_S256x256 slices_S4x256_o0_0_S4x128 12 rfl inb_S2x16x128_S1x4x128_0_12_0 x
  · intro x; exact scaleP_emb y 1 2 (by norm_num) (by norm_num) 512 128 rfl rfl slices_S1024x256_o512_0_S256x256 slices_S4x256_o0_128_S4x128 8 rfl inb_S2x16x128_S1x4x128_1_8_0 x
  · intro x; exact scaleP_emb y 0 2 (by norm_num) (by norm_num) 512 0 rfl rfl slices_S1024x256_o512_0_S256x256 slices_S4x256_o0_0_S4x128 8 rfl inb_S2x16x128_S1x4x128_0_8_0 x
  · intro x; exact scaleP_emb y 1 1 (by norm_num) (by norm_num) 256 128 rfl rfl slices_S1024x256_o256_0_S256x256 slices_S4x256_o0_128_S4x128 4 rfl inb_S2x16x128_S1x4x128_1_4_0 x
  · intro x; exact scaleP_emb y 0 1 (by norm_num) (by norm_num) 256 0 rfl rfl slices_S1024x256_o256_0_S256x256 slices_S4x256_o0_0_S4x128 4 rfl inb_S2x16x128_S1x4x128_0_4_0 x
  · intro x; exact scaleP_emb y 1 0 (by norm_num) (by norm_num) 0 128 rfl rfl slices_S1024x256_o0_0_S256x256 slices_S4x256_o0_128_S4x128 0 rfl inb_S2x16x128_S1x4x128_1_0_0 x
  · intro x; exact scaleP_emb y 0 0 (by norm_num) (by norm_num) 0 0 rfl rfl slices_S1024x256_o0_0_S256x256 slices_S4x256_o0_0_S4x128 0 rfl inb_S2x16x128_S1x4x128_0_0_0 x

end Cert.KernelIdeal.Hand

end
-- ==== Proof.Pieces.lean ====
module

public import proofs.«01_k».proof.Proof.Gen.KernelIdeal.Frame.RunA
public import proofs.«01_k».proof.Proof.Gen.KernelIdeal.Frame.RunB
public import proofs.«01_k».proof.Proof.Gen.KernelIdeal.Frame.RunC
public import proofs.«01_k».proof.Proof.Gen.KernelIdeal.Frame.RunD
public import proofs.«01_k».proof.Proof.Loads
public import proofs.«01_k».proof.Proof.Chunk

@[expose] public section

noncomputable section

namespace Cert.KernelIdeal.Hand

open Cert.KernelIdeal Cert.KernelIdeal.Gen Cert.Hand
open Idealize.ShloMosaic Idealize.ShloMosaic.TcCoe Idealize.ShloMosaic.Tactic

section
variable {F : FTy → Type} [FloatOps F]
variable (c : Dev nD) (i : grid0.Coords) (arg1 : Memref sig .tc .vmem S2x128x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2x1024x128 .fp8e4m3) (harg5 : arg5.IsWhole) (arg6 : Memref sig .tc .vmem S2x16x128 .f32) (harg6 : arg6.IsWhole) (arg7 : Memref sig .tc .vmem S2x1024x128 .fp8e4m3) (harg7 : arg7.IsWhole) (arg8 : Memref sig .tc .vmem S2x16x128 .f32) (harg8 : arg8.IsWhole) (arg9 : Memref sig .tc .vmem S2x1024x128 .fp8e4m3) (harg9 : arg9.IsWhole) (arg10 : Memref sig .tc .vmem S2x16x128 .f32) (harg10 : arg10.IsWhole) (arg11 : Memref sig .tc .vmem S2x2x128x128 .i32) (harg11 : arg11.IsWhole) (arg12 : Memref sig .tc .vmem S8x1x128x128 .i32) (harg12 : arg12.IsWhole) (arg13 : Memref sig .tc .vmem S2x2x128x128 .i32) (harg13 : arg13.IsWhole) (arg14 : Memref sig .tc .vmem S2x128x128 .f32) (harg14 : arg14.IsWhole) (arg15 : Memref sig .tc .vmem S2x2x128x128 .i32) (harg15 : arg15.IsWhole) (arg16 : Memref sig .tc .vmem S2x2x128x128 .i32) (harg16 : arg16.IsWhole) (arg17 : Memref sig .tc .vmem S128x1024 .f32) (harg17 : arg17.IsWhole) (arg18 : Memref sig .tc .vmem S1024x128 .i32) (harg18 : arg18.IsWhole) (arg19 : Memref sig .tc .vmem S256x1024 .bf16) (harg19 : arg19.IsWhole) (arg20 : Memref sig .tc .vmem S4x256x256 .i32) (harg20 : arg20.IsWhole) (arg21 : Memref sig .tc .vmem S2x128x128 .f32) (harg21 : arg21.IsWhole)
  (x0 : Vec F S2x128x1024 .bf16) (x1 : Vec F S1024x1024 .bf16) (x2 : Vec F S1024x1024 .bf16) (x3 : Vec F S1024x1024 .bf16)
  (xs0 : Vec F S128x1024 .f32) (xs1 : Vec F S1024x128 .i32) (xs4 : Vec F S2x128x128 .f32)

section CaseA
variable (hc0 : cond0_0 i) (hc1 : ¬cond0_1 i) (hc2 : ¬cond0_2 i) (hc3 : cond0_3 i)

/-- Case A, window 4: the pieces the run stores are those of a product of the step's rows. -/
theorem pieces_A_4 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).1 = codePieces (k0_pay13 (k0_pay11 x0) x1) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).1 = codePieces (k0_pay13 (arg19.view.readCov [⟨Rect.unit ![0, 0] S256x1024.size inb_S256x1024_S256x1024_0_0, k0_pay11 (View.readAt (Elt F) arg1.view (Rect.unit ![0, 0, 0] S2x128x1024.size inb_S2x128x1024_S2x128x1024_0_0_0).toLoadRect (harg1.unread x0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_A
    dsimp only
    sl_unfold_words
    rfl
  rw [h, readCov_xq, readAt_unread3, readAt_unread2]

/-- Case A, window 5: the pieces the run stores are those of a product of the step's rows. -/
theorem pieces_A_5 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.1 = scalePieces (k0_pay13 (k0_pay11 x0) x1) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.1 = scalePieces (k0_pay13 (arg19.view.readCov [⟨Rect.unit ![0, 0] S256x1024.size inb_S256x1024_S256x1024_0_0, k0_pay11 (View.readAt (Elt F) arg1.view (Rect.unit ![0, 0, 0] S2x128x1024.size inb_S2x128x1024_S2x128x1024_0_0_0).toLoadRect (harg1.unread x0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_A
    dsimp only
    sl_unfold_words
    rfl
  rw [h, readCov_xq, readAt_unread3, readAt_unread2]

/-- Case A, window 6: the pieces the run stores are those of a product of the step's rows. -/
theorem pieces_A_6 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.1 = codePieces (k0_pay13 (k0_pay12 x0) x2) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_A
    dsimp only
    sl_unfold_words
    rfl
  rw [h, readAt_unread3, readAt_unread2]

/-- Case A, window 7: the pieces the run stores are those of a product of the step's rows. -/
theorem pieces_A_7 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.1 = scalePieces (k0_pay13 (k0_pay12 x0) x2) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_A
    dsimp only
    sl_unfold_words
    rfl
  rw [h, readAt_unread3, readAt_unread2]

/-- Case A, window 8: the pieces the run stores are those of a product of the step's rows. -/
theorem pieces_A_8 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.2.1 = codePieces (k0_pay13 (k0_pay12 x0) x3) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_A
    dsimp only
    sl_unfold_words
    rfl
  rw [h, readAt_unread3, readAt_unread2]

/-- Case A, window 9: the pieces the run stores are those of a product of the step's rows. -/
theorem pieces_A_9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.2.2.1 = scalePieces (k0_pay13 (k0_pay12 x0) x3) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_A
    dsimp only
    sl_unfold_words
    rfl
  rw [h, readAt_unread3, readAt_unread2]

end CaseA

section CaseB
variable (hc0 : ¬cond0_0 i) (hc1 : ¬cond0_1 i) (hc2 : ¬cond0_2 i) (hc3 : cond0_3 i)

/-- Case B, window 4: the pieces the run stores are those of a product of the step's rows. -/
theorem pieces_B_4 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).1 = codePieces (k0_pay13 (k0_pay11 x0) x1) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).1 = codePieces (k0_pay13 (arg19.view.readCov [⟨Rect.unit ![0, 0] S256x1024.size inb_S256x1024_S256x1024_0_0, k0_pay11 (View.readAt (Elt F) arg1.view (Rect.unit ![0, 0, 0] S2x128x1024.size inb_S2x128x1024_S2x128x1024_0_0_0).toLoadRect (harg1.unread x0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_B
    dsimp only
    sl_unfold_words
    rfl
  rw [h, readCov_xq, readAt_unread3, readAt_unread2]

/-- Case B, window 5: the pieces the run stores are those of a product of the step's rows. -/
theorem pieces_B_5 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.1 = scalePieces (k0_pay13 (k0_pay11 x0) x1) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.1 = scalePieces (k0_pay13 (arg19.view.readCov [⟨Rect.unit ![0, 0] S256x1024.size inb_S256x1024_S256x1024_0_0, k0_pay11 (View.readAt (Elt F) arg1.view (Rect.unit ![0, 0, 0] S2x128x1024.size inb_S2x128x1024_S2x128x1024_0_0_0).toLoadRect (harg1.unread x0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_B
    dsimp only
    sl_unfold_words
    rfl
  rw [h, readCov_xq, readAt_unread3, readAt_unread2]

/-- Case B, window 6: the pieces the run stores are those of a product of the step's rows. -/
theorem pieces_B_6 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.1 = codePieces (k0_pay13 (k0_pay12 x0) x2) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_B
    dsimp only
    sl_unfold_words
    rfl
  rw [h, readAt_unread3, readAt_unread2]

/-- Case B, window 7: the pieces the run stores are those of a product of the step's rows. -/
theorem pieces_B_7 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.1 = scalePieces (k0_pay13 (k0_pay12 x0) x2) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_B
    dsimp only
    sl_unfold_words
    rfl
  rw [h, readAt_unread3, readAt_unread2]

/-- Case B, window 8: the pieces the run stores are those of a product of the step's rows. -/
theorem pieces_B_8 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.1 = codePieces (k0_pay13 (k0_pay12 x0) x3) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_B
    dsimp only
    sl_unfold_words
    rfl
  rw [h, readAt_unread3, readAt_unread2]

/-- Case B, window 9: the pieces the run stores are those of a product of the step's rows. -/
theorem pieces_B_9 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.1 = scalePieces (k0_pay13 (k0_pay12 x0) x3) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_B
    dsimp only
    sl_unfold_words
    rfl
  rw [h, readAt_unread3, readAt_unread2]

end CaseB

section CaseC
variable (hc0 : ¬cond0_0 i) (hc1 : cond0_1 i) (hc2 : ¬cond0_2 i) (hc3 : cond0_3 i)

/-- Case C, window 4: the pieces the run stores are those of a product of the step's rows. -/
theorem pieces_C_4 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).1 = codePieces (k0_pay13 (k0_pay11 x0) x1) := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).1 = codePieces (k0_pay13 (arg19.view.readCov [⟨Rect.unit ![0, 0] S256x1024.size inb_S256x1024_S256x1024_0_0, k0_pay11 (View.readAt (Elt F) arg1.view (Rect.unit ![0, 0, 0] S2x128x1024.size inb_S2x128x1024_S2x128x1024_0_0_0).toLoadRect (harg1.unread x0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_C
    dsimp only
    sl_unfold_words
    rfl
  rw [h, readCov_xq, readAt_unread3, readAt_unread2]

/-- Case C, window 5: the pieces the run stores are those of a product of the step's rows. -/
theorem pieces_C_5 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.1 = scalePieces (k0_pay13 (k0_pay11 x0) x1) := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.1 = scalePieces (k0_pay13 (arg19.view.readCov [⟨Rect.unit ![0, 0] S256x1024.size inb_S256x1024_S256x1024_0_0, k0_pay11 (View.readAt (Elt F) arg1.view (Rect.unit ![0, 0, 0] S2x128x1024.size inb_S2x128x1024_S2x128x1024_0_0_0).toLoadRect (harg1.unread x0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_C
    dsimp only
    sl_unfold_words
    rfl
  rw [h, readCov_xq, readAt_unread3, readAt_unread2]

/-- Case C, window 6: the pieces the run stores are those of a product of the step's rows. -/
theorem pieces_C_6 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.1 = codePieces (k0_pay13 (k0_pay12 x0) x2) := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_C
    dsimp only
    sl_unfold_words
    rfl
  rw [h, readAt_unread3, readAt_unread2]

/-- Case C, window 7: the pieces the run stores are those of a product of the step's rows. -/
theorem pieces_C_7 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.1 = scalePieces (k0_pay13 (k0_pay12 x0) x2) := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_C
    dsimp only
    sl_unfold_words
    rfl
  rw [h, readAt_unread3, readAt_unread2]

/-- Case C, window 8: the pieces the run stores are those of a product of the step's rows. -/
theorem pieces_C_8 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.1 = codePieces (k0_pay13 (k0_pay12 x0) x3) := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_C
    dsimp only
    sl_unfold_words
    rfl
  rw [h, readAt_unread3, readAt_unread2]

/-- Case C, window 9: the pieces the run stores are those of a product of the step's rows. -/
theorem pieces_C_9 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.1 = scalePieces (k0_pay13 (k0_pay12 x0) x3) := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_C
    dsimp only
    sl_unfold_words
    rfl
  rw [h, readAt_unread3, readAt_unread2]

end CaseC

section CaseD
variable (hc0 : ¬cond0_0 i) (hc1 : ¬cond0_1 i) (hc2 : cond0_2 i) (hc3 : ¬cond0_3 i)

/-- Case D, window 4: the pieces the run stores are those of a product of the step's rows. -/
theorem pieces_D_4 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).1 = codePieces (k0_pay13 (xqS xs0) x1) := by
  have h : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).1 = codePieces (k0_pay13 (arg19.view.readCov [⟨Rect.unit ![128, 0] S128x1024.size inb_S256x1024_S128x1024_128_0, k0_pay10⟩, ⟨Rect.unit ![0, 0] S128x1024.size inb_S256x1024_S128x1024_0_0, k0_pay9 (View.readAt (Elt F) arg17.view (Rect.unit ![0, 0] S128x1024.size inb_S128x1024_S128x1024_0_0).toLoadRect (harg17.unread xs0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_D
    dsimp only
    sl_unfold_words
    rfl
  rw [h, readCov_xqS, readAt_unread2, readAt_unread2]

/-- Case D, window 5: the pieces the run stores are those of a product of the step's rows. -/
theorem pieces_D_5 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.1 = scalePieces (k0_pay13 (xqS xs0) x1) := by
  have h : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.1 = scalePieces (k0_pay13 (arg19.view.readCov [⟨Rect.unit ![128, 0] S128x1024.size inb_S256x1024_S128x1024_128_0, k0_pay10⟩, ⟨Rect.unit ![0, 0] S128x1024.size inb_S256x1024_S128x1024_0_0, k0_pay9 (View.readAt (Elt F) arg17.view (Rect.unit ![0, 0] S128x1024.size inb_S128x1024_S128x1024_0_0).toLoadRect (harg17.unread xs0))⟩] (Rect.unit ![0, 0] S256x1024.size inb_S256x1024_S256x1024_0_0).toLoadRect) (View.readAt (Elt F) arg2.view (Rect.unit ![0, 0] S1024x1024.size inb_S1024x1024_S1024x1024_0_0).toLoadRect (harg2.unread x1))) := by
    unfold kernelRun0_D
    dsimp only
    sl_unfold_words
    rfl
  rw [h, readCov_xqS, readAt_unread2, readAt_unread2]

/-- Case D, window 6: the pieces the run stores are those of a product of the step's rows. -/
theorem pieces_D_6 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.1 = codePieces (k0_pay13 (k0_pay12 x0) x2) := by
  have h : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_D
    dsimp only
    sl_unfold_words
    rfl
  rw [h, readAt_unread3, readAt_unread2]

/-- Case D, window 7: the pieces the run stores are those of a product of the step's rows. -/
theorem pieces_D_7 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.1 = scalePieces (k0_pay13 (k0_pay12 x0) x2) := by
  have h : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg3.view (Rect.unit ![0, 0] S1024x1024.size inb_S1024x1024_S1024x1024_0_0).toLoadRect (harg3.unread x2))) := by
    unfold kernelRun0_D
    dsimp only
    sl_unfold_words
    rfl
  rw [h, readAt_unread3, readAt_unread2]

/-- Case D, window 8: the pieces the run stores are those of a product of the step's rows. -/
theorem pieces_D_8 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.1 = codePieces (k0_pay13 (k0_pay12 x0) x3) := by
  have h : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.1 = codePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_D
    dsimp only
    sl_unfold_words
    rfl
  rw [h, readAt_unread3, readAt_unread2]

/-- Case D, window 9: the pieces the run stores are those of a product of the step's rows. -/
theorem pieces_D_9 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.1 = scalePieces (k0_pay13 (k0_pay12 x0) x3) := by
  have h : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.1 = scalePieces (k0_pay13 (k0_pay12 (View.readAt (Elt F) arg1.view (Rect.unit ![0, 0, 0] S2x128x1024.size inb_S2x128x1024_S2x128x1024_0_0_0).toLoadRect (harg1.unread x0))) (View.readAt (Elt F) arg4.view (Rect.unit ![0, 0] S1024x1024.size inb_S1024x1024_S1024x1024_0_0).toLoadRect (harg4.unread x3))) := by
    unfold kernelRun0_D
    dsimp only
    sl_unfold_words
    rfl
  rw [h, readAt_unread3, readAt_unread2]

end CaseD

end

end Cert.KernelIdeal.Hand

end
-- ==== Proof.Product.lean ====
module

public import proofs.«01_k».proof.Proof.Loads
public import proofs.«01_k».proof.Proof.Chunk
public import Idealize.ShloMosaic.PureOps.Ideal.Laws

@[expose] public section

noncomputable section

namespace Cert.KernelIdeal.Hand

open Cert.KernelIdeal Cert.KernelIdeal.Gen Cert.Hand
open Idealize.ShloMosaic

/-- The product of a step: entry (d, n) sums, over the channels, the weight's row d times the row n of the step. -/
theorem prod_apply (X : FVec Ideal S256x1024 .bf16) (W : FVec Ideal S1024x1024 .bf16) (d : Fin 1024) (n : Fin 256) :
    k0_pay13 (F := Ideal) X W (ix2 d n) = (∑ k : Fin 1024, W (ix2 d k) * X (ix2 n k) : EReal) := by
  unfold k0_pay13
  rw [shapeCast_self]
  refine (Ideal.matmul_constant_zero_apply _ none W X (ix2 d n)).trans ?_
  refine (DotDims.sum_contr₁ _ (a := 1) rfl (K := 1024) rfl _).trans ?_
  refine Finset.sum_congr rfl fun k _ => ?_
  have hL : (dot_S1024x1024_S256x1024_S1024x256_1_1_0_0_n_n).lhsIdx (ix2 d n) (DotDims.contrIdx₁ _ (a := 1) rfl (K := 1024) rfl k) = ix2 d k := by
    funext a
    match a with
    | ⟨0, _⟩ => rfl
    | ⟨1, _⟩ => rfl
  have hR : (dot_S1024x1024_S256x1024_S1024x256_1_1_0_0_n_n).rhsIdx (ix2 d n) (DotDims.contrIdx₁ _ (a := 1) rfl (K := 1024) rfl k) = ix2 n k := by
    funext a
    match a with
    | ⟨0, _⟩ => rfl
    | ⟨1, _⟩ => rfl
  rw [hL, hR]

section
variable {F : FTy → Type} [FloatOps F]

/-- The step's 256 rows: two blocks of 128. -/
theorem rows12_apply (x : Vec F S2x128x1024 .bf16) (n : Fin 256) (k : Fin 1024) :
    k0_pay12 x (ix2 n k) = x (ix3 ⟨n.val / 128, by omega⟩ ⟨n.val % 128, by omega⟩ k) := by
  unfold k0_pay12
  rw [shapeCast_self]
  refine shapeCast_apply _ _ _ _ ?_
  rw [Shape.rowMajor_val_three, Shape.rowMajor_val_two]
  show (n.val / 128 * 128 + n.val % 128) * 1024 + k.val = n.val * 1024 + k.val
  omega

/-- The query rows are the step's rows. -/
theorem rows11_eq (x : Vec F S2x128x1024 .bf16) : k0_pay11 x = k0_pay12 x := by
  unfold k0_pay11 k0_pay12
  exact shapeCast_self _ _

end

/-- The sums start at 0. -/
theorem sum0_apply (b : Fin 128) (k : Fin 1024) : k0_pay5 (F := Ideal) (ix2 b k) = 0 := by
  unfold k0_pay5
  rw [shapeCast_self]
  exact Ideal.ofBits_zero_f32

/-- A step's sums: the sums so far plus its two rows. -/
theorem sum_apply (s : FVec Ideal S128x1024 .f32) (x0 x1 : FVec Ideal S1x128x1024 .bf16) (b : Fin 128) (k : Fin 1024) :
    k0_pay8 (F := Ideal) s x0 x1 (ix2 b k) = (s (ix2 b k) + (x0 (ix3 0 b k) + x1 (ix3 0 b k)) : EReal) := by
  have h (x : FVec Ideal S1x128x1024 .bf16) : shapeCast S128x1024 x shapeCasts_S1x128x1024_S128x1024 (ix2 b k) = x (ix3 0 b k) := by
    refine shapeCast_apply _ _ _ _ ?_
    rw [Shape.rowMajor_val_three, Shape.rowMajor_val_two]
    show (0 * 128 + b.val) * 1024 + k.val = b.val * 1024 + k.val
    omega
  unfold k0_pay8
  rw [shapeCast_self (h := shapeCasts_S128x1024_S128x1024)]
  show (s (ix2 b k) + (shapeCast S128x1024 x0 shapeCasts_S1x128x1024_S128x1024 (ix2 b k) +
    shapeCast S128x1024 x1 shapeCasts_S1x128x1024_S128x1024 (ix2 b k)) : EReal) = _
  rw [h, h]

/-- The mean row: the sums divided by 24. -/
theorem mean_apply (s : FVec Ideal S128x1024 .f32) (b : Fin 128) (k : Fin 1024) :
    k0_pay9 (F := Ideal) s (ix2 b k) = Ideal.div (s (ix2 b k)) (Ideal.ofBits .f32 0x41C00000#32) := by
  unfold k0_pay9
  rw [shapeCast_self (h := shapeCasts_S128x1024_S128x1024)]
  rfl

/-- The first 128 query rows of the last step are the mean rows. -/
theorem xqS_apply (s : FVec Ideal S128x1024 .f32) (n : Fin 256) (hn : n.val < 128) (k : Fin 1024) :
    xqS (F := Ideal) s (ix2 n k) = Ideal.div (s (ix2 ⟨n.val, hn⟩ k)) (Ideal.ofBits .f32 0x41C00000#32) := by
  have h : ((ix2 n k : S256x1024.Idx) 0).val < 128 := hn
  unfold xqS
  rw [dif_pos h]
  exact mean_apply s ⟨n.val, hn⟩ k

end Cert.KernelIdeal.Hand

end
-- ==== Proof.Block.lean ====
module

public import proofs.«01_k».proof.Proof.Gen.KernelIdeal.Frame
public import proofs.«01_k».proof.Proof.Pieces
public import proofs.«01_k».proof.Proof.Product

@[expose] public section

noncomputable section

namespace Cert.KernelIdeal.Hand

open Cert.KernelIdeal Cert.KernelIdeal.Gen Cert.Hand
open Idealize.ShloMosaic Idealize.ShloMosaic.TcCoe Idealize.ShloMosaic.Tactic

section
variable (c : Dev nD) (i : grid0.Coords) (arg1 : Memref sig .tc .vmem S2x128x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2x1024x128 .fp8e4m3) (harg5 : arg5.IsWhole) (arg6 : Memref sig .tc .vmem S2x16x128 .f32) (harg6 : arg6.IsWhole) (arg7 : Memref sig .tc .vmem S2x1024x128 .fp8e4m3) (harg7 : arg7.IsWhole) (arg8 : Memref sig .tc .vmem S2x16x128 .f32) (harg8 : arg8.IsWhole) (arg9 : Memref sig .tc .vmem S2x1024x128 .fp8e4m3) (harg9 : arg9.IsWhole) (arg10 : Memref sig .tc .vmem S2x16x128 .f32) (harg10 : arg10.IsWhole) (arg11 : Memref sig .tc .vmem S2x2x128x128 .i32) (harg11 : arg11.IsWhole) (arg12 : Memref sig .tc .vmem S8x1x128x128 .i32) (harg12 : arg12.IsWhole) (arg13 : Memref sig .tc .vmem S2x2x128x128 .i32) (harg13 : arg13.IsWhole) (arg14 : Memref sig .tc .vmem S2x128x128 .f32) (harg14 : arg14.IsWhole) (arg15 : Memref sig .tc .vmem S2x2x128x128 .i32) (harg15 : arg15.IsWhole) (arg16 : Memref sig .tc .vmem S2x2x128x128 .i32) (harg16 : arg16.IsWhole) (arg17 : Memref sig .tc .vmem S128x1024 .f32) (harg17 : arg17.IsWhole) (arg18 : Memref sig .tc .vmem S1024x128 .i32) (harg18 : arg18.IsWhole) (arg19 : Memref sig .tc .vmem S256x1024 .bf16) (harg19 : arg19.IsWhole) (arg20 : Memref sig .tc .vmem S4x256x256 .i32) (harg20 : arg20.IsWhole) (arg21 : Memref sig .tc .vmem S2x128x128 .f32) (harg21 : arg21.IsWhole)
  (x0 : Vec Ideal S2x128x1024 .bf16) (x1 : Vec Ideal S1024x1024 .bf16) (x2 : Vec Ideal S1024x1024 .bf16) (x3 : Vec Ideal S1024x1024 .bf16)
  (xs0 : Vec Ideal S128x1024 .f32) (xs1 : Vec Ideal S1024x128 .i32) (xs4 : Vec Ideal S2x128x128 .f32)

section CaseA
variable (hc0 : cond0_0 i) (hc1 : ¬cond0_1 i) (hc2 : ¬cond0_2 i) (hc3 : cond0_3 i)

/-- Case A: the block of window 4 holds the codes of the step's product. -/
theorem out_A_4 : out0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = codeG (k0_pay13 (k0_pay11 x0) x1) := by
  unfold out0_A_4
  funext y
  exact View.read_writes_apply_of_pieces (Val := Elt Ideal) _ _ _ _
    (by rw [pieces_A_4]; exact codePieces_emb _) y (cover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

/-- Case A: the block of window 5 holds the scales of the step's product. -/
theorem out_A_5 : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = scaleG (k0_pay13 (k0_pay11 x0) x1) := by
  unfold out0_A_5
  funext y
  exact View.read_writes_apply_of_pieces (Val := Elt Ideal) _ _ _ _
    (by rw [pieces_A_5]; exact scalePieces_emb _) y (cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

/-- Case A: the block of window 6 holds the codes of the step's product. -/
theorem out_A_6 : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = codeG (k0_pay13 (k0_pay12 x0) x2) := by
  unfold out0_A_6
  funext y
  exact View.read_writes_apply_of_pieces (Val := Elt Ideal) _ _ _ _
    (by rw [pieces_A_6]; exact codePieces_emb _) y (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

/-- Case A: the block of window 7 holds the scales of the step's product. -/
theorem out_A_7 : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = scaleG (k0_pay13 (k0_pay12 x0) x2) := by
  unfold out0_A_7
  funext y
  exact View.read_writes_apply_of_pieces (Val := Elt Ideal) _ _ _ _
    (by rw [pieces_A_7]; exact scalePieces_emb _) y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

/-- Case A: the block of window 8 holds the codes of the step's product. -/
theorem out_A_8 : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = codeG (k0_pay13 (k0_pay12 x0) x3) := by
  unfold out0_A_8
  funext y
  exact View.read_writes_apply_of_pieces (Val := Elt Ideal) _ _ _ _
    (by rw [pieces_A_8]; exact codePieces_emb _) y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

/-- Case A: the block of window 9 holds the scales of the step's product. -/
theorem out_A_9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = scaleG (k0_pay13 (k0_pay12 x0) x3) := by
  unfold out0_A_9
  funext y
  exact View.read_writes_apply_of_pieces (Val := Elt Ideal) _ _ _ _
    (by rw [pieces_A_9]; exact scalePieces_emb _) y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

end CaseA

section CaseB
variable (hc0 : ¬cond0_0 i) (hc1 : ¬cond0_1 i) (hc2 : ¬cond0_2 i) (hc3 : cond0_3 i)

/-- Case B: the block of window 4 holds the codes of the step's product. -/
theorem out_B_4 : out0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay11 x0) x1) := by
  unfold out0_B_4
  funext y
  exact View.read_writes_apply_of_pieces (Val := Elt Ideal) _ _ _ _
    (by rw [pieces_B_4]; exact codePieces_emb _) y (cover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case B: the block of window 5 holds the scales of the step's product. -/
theorem out_B_5 : out0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay11 x0) x1) := by
  unfold out0_B_5
  funext y
  exact View.read_writes_apply_of_pieces (Val := Elt Ideal) _ _ _ _
    (by rw [pieces_B_5]; exact scalePieces_emb _) y (cover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case B: the block of window 6 holds the codes of the step's product. -/
theorem out_B_6 : out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay12 x0) x2) := by
  unfold out0_B_6
  funext y
  exact View.read_writes_apply_of_pieces (Val := Elt Ideal) _ _ _ _
    (by rw [pieces_B_6]; exact codePieces_emb _) y (cover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case B: the block of window 7 holds the scales of the step's product. -/
theorem out_B_7 : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay12 x0) x2) := by
  unfold out0_B_7
  funext y
  exact View.read_writes_apply_of_pieces (Val := Elt Ideal) _ _ _ _
    (by rw [pieces_B_7]; exact scalePieces_emb _) y (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case B: the block of window 8 holds the codes of the step's product. -/
theorem out_B_8 : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay12 x0) x3) := by
  unfold out0_B_8
  funext y
  exact View.read_writes_apply_of_pieces (Val := Elt Ideal) _ _ _ _
    (by rw [pieces_B_8]; exact codePieces_emb _) y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case B: the block of window 9 holds the scales of the step's product. -/
theorem out_B_9 : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay12 x0) x3) := by
  unfold out0_B_9
  funext y
  exact View.read_writes_apply_of_pieces (Val := Elt Ideal) _ _ _ _
    (by rw [pieces_B_9]; exact scalePieces_emb _) y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

end CaseB

section CaseC
variable (hc0 : ¬cond0_0 i) (hc1 : cond0_1 i) (hc2 : ¬cond0_2 i) (hc3 : cond0_3 i)

/-- Case C: the block of window 4 holds the codes of the step's product. -/
theorem out_C_4 : out0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay11 x0) x1) := by
  unfold out0_C_4
  funext y
  exact View.read_writes_apply_of_pieces (Val := Elt Ideal) _ _ _ _
    (by rw [pieces_C_4]; exact codePieces_emb _) y (cover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case C: the block of window 5 holds the scales of the step's product. -/
theorem out_C_5 : out0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay11 x0) x1) := by
  unfold out0_C_5
  funext y
  exact View.read_writes_apply_of_pieces (Val := Elt Ideal) _ _ _ _
    (by rw [pieces_C_5]; exact scalePieces_emb _) y (cover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case C: the block of window 6 holds the codes of the step's product. -/
theorem out_C_6 : out0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay12 x0) x2) := by
  unfold out0_C_6
  funext y
  exact View.read_writes_apply_of_pieces (Val := Elt Ideal) _ _ _ _
    (by rw [pieces_C_6]; exact codePieces_emb _) y (cover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case C: the block of window 7 holds the scales of the step's product. -/
theorem out_C_7 : out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay12 x0) x2) := by
  unfold out0_C_7
  funext y
  exact View.read_writes_apply_of_pieces (Val := Elt Ideal) _ _ _ _
    (by rw [pieces_C_7]; exact scalePieces_emb _) y (cover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case C: the block of window 8 holds the codes of the step's product. -/
theorem out_C_8 : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay12 x0) x3) := by
  unfold out0_C_8
  funext y
  exact View.read_writes_apply_of_pieces (Val := Elt Ideal) _ _ _ _
    (by rw [pieces_C_8]; exact codePieces_emb _) y (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case C: the block of window 9 holds the scales of the step's product. -/
theorem out_C_9 : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay12 x0) x3) := by
  unfold out0_C_9
  funext y
  exact View.read_writes_apply_of_pieces (Val := Elt Ideal) _ _ _ _
    (by rw [pieces_C_9]; exact scalePieces_emb _) y (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

end CaseC

section CaseD
variable (hc0 : ¬cond0_0 i) (hc1 : ¬cond0_1 i) (hc2 : cond0_2 i) (hc3 : ¬cond0_3 i)

/-- Case D: the block of window 4 holds the codes of the step's product. -/
theorem out_D_4 : out0_D_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (xqS xs0) x1) := by
  unfold out0_D_4
  funext y
  exact View.read_writes_apply_of_pieces (Val := Elt Ideal) _ _ _ _
    (by rw [pieces_D_4]; exact codePieces_emb _) y (cover0_D_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case D: the block of window 5 holds the scales of the step's product. -/
theorem out_D_5 : out0_D_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (xqS xs0) x1) := by
  unfold out0_D_5
  funext y
  exact View.read_writes_apply_of_pieces (Val := Elt Ideal) _ _ _ _
    (by rw [pieces_D_5]; exact scalePieces_emb _) y (cover0_D_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case D: the block of window 6 holds the codes of the step's product. -/
theorem out_D_6 : out0_D_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay12 x0) x2) := by
  unfold out0_D_6
  funext y
  exact View.read_writes_apply_of_pieces (Val := Elt Ideal) _ _ _ _
    (by rw [pieces_D_6]; exact codePieces_emb _) y (cover0_D_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case D: the block of window 7 holds the scales of the step's product. -/
theorem out_D_7 : out0_D_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay12 x0) x2) := by
  unfold out0_D_7
  funext y
  exact View.read_writes_apply_of_pieces (Val := Elt Ideal) _ _ _ _
    (by rw [pieces_D_7]; exact scalePieces_emb _) y (cover0_D_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case D: the block of window 8 holds the codes of the step's product. -/
theorem out_D_8 : out0_D_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = codeG (k0_pay13 (k0_pay12 x0) x3) := by
  unfold out0_D_8
  funext y
  exact View.read_writes_apply_of_pieces (Val := Elt Ideal) _ _ _ _
    (by rw [pieces_D_8]; exact codePieces_emb _) y (cover0_D_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

/-- Case D: the block of window 9 holds the scales of the step's product. -/
theorem out_D_9 : out0_D_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = scaleG (k0_pay13 (k0_pay12 x0) x3) := by
  unfold out0_D_9
  funext y
  exact View.read_writes_apply_of_pieces (Val := Elt Ideal) _ _ _ _
    (by rw [pieces_D_9]; exact scalePieces_emb _) y (cover0_D_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

end CaseD

end

end Cert.KernelIdeal.Hand

end
-- ==== Proof.Sums.lean ====
module

public import proofs.«01_k».proof.Proof.Gen.KernelIdeal.Frame
public import proofs.«01_k».proof.Proof.Product

@[expose] public section

noncomputable section

namespace Cert.KernelIdeal.Hand

open Cert.KernelIdeal Cert.KernelIdeal.Gen Cert.Hand
open Idealize.ShloMosaic Idealize.ShloMosaic.TcCoe Idealize.ShloMosaic.Tactic

section
variable {F : FTy → Type} [FloatOps F]

/-- Row `r` of a step's block. -/
def rowOf (r : Fin 2) (x : Vec F S2x128x1024 .bf16) : Vec F S1x128x1024 .bf16 := fun y => x (ix3 r (y 1) (y 2))

/-- A load of one row of the step's block. -/
theorem readAt_row0 {κ : Kind} {sp : Space} (arg : Memref sig κ sp S2x128x1024 .bf16) (harg : arg.IsWhole) (x : Vec F S2x128x1024 .bf16)
    (inb : ∀ a, (![0, 0, 0] : Fin 3 → Nat) a + S1x128x1024.size a ≤ S2x128x1024.size a) :
    View.readAt (Elt F) arg.view (Rect.unit (s := S2x128x1024) ![0, 0, 0] S1x128x1024.size inb).toLoadRect (harg.unread x) = rowOf 0 x := by
  rw [View.readAt_eq_ld, harg.read_unread]
  funext y
  refine congrArg x (funext fun a => ?_)
  match a with
  | ⟨0, _⟩ => exact Fin.ext (by have : (y 0).val < 1 := (y 0).isLt; show 0 + 1 * (y 0).val = 0; omega)
  | ⟨1, _⟩ => exact Fin.ext (by show 0 + 1 * (y 1).val = (y 1).val; omega)
  | ⟨2, _⟩ => exact Fin.ext (by show 0 + 1 * (y 2).val = (y 2).val; omega)

/-- A load of the other row of the step's block. -/
theorem readAt_row1 {κ : Kind} {sp : Space} (arg : Memref sig κ sp S2x128x1024 .bf16) (harg : arg.IsWhole) (x : Vec F S2x128x1024 .bf16)
    (inb : ∀ a, (![1, 0, 0] : Fin 3 → Nat) a + S1x128x1024.size a ≤ S2x128x1024.size a) :
    View.readAt (Elt F) arg.view (Rect.unit (s := S2x128x1024) ![1, 0, 0] S1x128x1024.size inb).toLoadRect (harg.unread x) = rowOf 1 x := by
  rw [View.readAt_eq_ld, harg.read_unread]
  funext y
  refine congrArg x (funext fun a => ?_)
  match a with
  | ⟨0, _⟩ => exact Fin.ext (by have : (y 0).val < 1 := (y 0).isLt; show 1 + 1 * (y 0).val = 1; omega)
  | ⟨1, _⟩ => exact Fin.ext (by show 0 + 1 * (y 1).val = (y 1).val; omega)
  | ⟨2, _⟩ => exact Fin.ext (by show 0 + 1 * (y 2).val = (y 2).val; omega)

/-- One whole store makes the sums' buffer. -/
theorem whole_emb (w : FVec F S128x1024 .f32) (inb : ∀ a, (![0, 0] : Fin 2 → Nat) a + S128x1024.size a ≤ S128x1024.size a) :
    ∀ p ∈ [(⟨Rect.unit (s := S128x1024) ![0, 0] S128x1024.size inb, w⟩ : View.Piece (Elt F) S128x1024 .f32)], ∀ x, p.2 x = w (p.1.emb x) := by
  intro p hp x
  simp only [List.mem_cons, List.not_mem_nil, or_false] at hp
  subst hp
  refine congrArg w (a₁ := x) (funext fun a => ?_)
  match a with
  | ⟨0, _⟩ => exact Fin.ext (by show (x 0).val = 0 + 1 * (x 0).val; omega)
  | ⟨1, _⟩ => exact Fin.ext (by show (x 1).val = 0 + 1 * (x 1).val; omega)

end

section
variable {F : FTy → Type} [FloatOps F]
variable (c : Dev nD) (i : grid0.Coords) (arg1 : Memref sig .tc .vmem S2x128x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S2x1024x128 .fp8e4m3) (harg5 : arg5.IsWhole) (arg6 : Memref sig .tc .vmem S2x16x128 .f32) (harg6 : arg6.IsWhole) (arg7 : Memref sig .tc .vmem S2x1024x128 .fp8e4m3) (harg7 : arg7.IsWhole) (arg8 : Memref sig .tc .vmem S2x16x128 .f32) (harg8 : arg8.IsWhole) (arg9 : Memref sig .tc .vmem S2x1024x128 .fp8e4m3) (harg9 : arg9.IsWhole) (arg10 : Memref sig .tc .vmem S2x16x128 .f32) (harg10 : arg10.IsWhole) (arg11 : Memref sig .tc .vmem S2x2x128x128 .i32) (harg11 : arg11.IsWhole) (arg12 : Memref sig .tc .vmem S8x1x128x128 .i32) (harg12 : arg12.IsWhole) (arg13 : Memref sig .tc .vmem S2x2x128x128 .i32) (harg13 : arg13.IsWhole) (arg14 : Memref sig .tc .vmem S2x128x128 .f32) (harg14 : arg14.IsWhole) (arg15 : Memref sig .tc .vmem S2x2x128x128 .i32) (harg15 : arg15.IsWhole) (arg16 : Memref sig .tc .vmem S2x2x128x128 .i32) (harg16 : arg16.IsWhole) (arg17 : Memref sig .tc .vmem S128x1024 .f32) (harg17 : arg17.IsWhole) (arg18 : Memref sig .tc .vmem S1024x128 .i32) (harg18 : arg18.IsWhole) (arg19 : Memref sig .tc .vmem S256x1024 .bf16) (harg19 : arg19.IsWhole) (arg20 : Memref sig .tc .vmem S4x256x256 .i32) (harg20 : arg20.IsWhole) (arg21 : Memref sig .tc .vmem S2x128x128 .f32) (harg21 : arg21.IsWhole)
  (x0 : Vec F S2x128x1024 .bf16) (x1 : Vec F S1024x1024 .bf16) (x2 : Vec F S1024x1024 .bf16) (x3 : Vec F S1024x1024 .bf16)
  (xs0 : Vec F S128x1024 .f32) (xs1 : Vec F S1024x128 .i32) (xs4 : Vec F S2x128x128 .f32)

section CaseA
variable (hc0 : cond0_0 i) (hc1 : ¬cond0_1 i) (hc2 : ¬cond0_2 i) (hc3 : cond0_3 i)

/-- Case A: the one store the step makes in the sums' buffer. -/
theorem sumPiece_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.2.2.2.2.2.2.2.2.2.1 = [⟨Rect.unit (s := S128x1024) ![0, 0] S128x1024.size inb_S128x1024_S128x1024_0_0, k0_pay5⟩] := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3).2.2.2.2.2.2.2.2.2.2.2.2.1 = [⟨Rect.unit (s := S128x1024) ![0, 0] S128x1024.size inb_S128x1024_S128x1024_0_0, k0_pay5⟩] := by
    unfold kernelRun0_A
    dsimp only
  rw [h]

/-- Case A: what the step leaves in the sums' buffer. -/
theorem sum_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 = k0_pay5 := by
  unfold sout0_A_0
  funext y
  exact View.read_writes_apply_of_pieces (Val := Elt F) _ _ _ _ (by rw [sumPiece_A]; exact whole_emb _ _) y (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 y)

end CaseA

section CaseC
variable (hc0 : ¬cond0_0 i) (hc1 : cond0_1 i) (hc2 : ¬cond0_2 i) (hc3 : cond0_3 i)

/-- Case C: the one store the step makes in the sums' buffer. -/
theorem sumPiece_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.2.2.2.2.2.2.2.1 = [⟨Rect.unit (s := S128x1024) ![0, 0] S128x1024.size inb_S128x1024_S128x1024_0_0, k0_pay8 xs0 (rowOf 0 x0) (rowOf 1 x0)⟩] := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4).2.2.2.2.2.2.2.2.2.2.2.2.1 = [⟨Rect.unit (s := S128x1024) ![0, 0] S128x1024.size inb_S128x1024_S128x1024_0_0, k0_pay8 (View.readAt (Elt F) arg17.view (Rect.unit ![0, 0] S128x1024.size inb_S128x1024_S128x1024_0_0).toLoadRect (harg17.unread xs0)) (View.readAt (Elt F) arg1.view (Rect.unit (s := S2x128x1024) ![0, 0, 0] S1x128x1024.size inb_S2x128x1024_S1x128x1024_0_0_0).toLoadRect (harg1.unread x0)) (View.readAt (Elt F) arg1.view (Rect.unit (s := S2x128x1024) ![1, 0, 0] S1x128x1024.size inb_S2x128x1024_S1x128x1024_1_0_0).toLoadRect (harg1.unread x0))⟩] := by
    unfold kernelRun0_C
    dsimp only
  rw [h, readAt_unread2, readAt_row0, readAt_row1]

/-- Case C: what the step leaves in the sums' buffer. -/
theorem sum_C : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 = k0_pay8 xs0 (rowOf 0 x0) (rowOf 1 x0) := by
  unfold sout0_C_0
  funext y
  exact View.read_writes_apply_of_pieces (Val := Elt F) _ _ _ _ (by rw [sumPiece_C]; exact whole_emb _ _) y (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 hc3 x0 x1 x2 x3 xs0 xs1 xs4 y)

end CaseC

end

end Cert.KernelIdeal.Hand

end
-- ==== Proof.Flush.lean ====
module

public import proofs.«01_k».proof.Proof.Gen.KernelIdeal.Value
public import proofs.«01_k».proof.Proof.Block
public import proofs.«01_k».proof.Proof.Sums

@[expose] public section

noncomputable section

namespace Cert.KernelIdeal.Hand

open Cert.KernelIdeal Cert.KernelIdeal.Gen Cert.Hand
open Cert.KernelIdeal.Value
open Idealize.ShloMosaic Idealize.ShloMosaic.TcCoe Idealize.ShloMosaic.Tactic

variable (m : (ℓ : Loc nD τ sig) → Buf (Elt Ideal) ℓ)

/-- The step's 256 rows. -/
def rowsAt (c : Dev nD) (t : Fin cfg0.N) : FVec Ideal S256x1024 .bf16 := k0_pay12 (iblk m c 0 t)

/-- What the sums' buffer holds after step `n`. -/
def sumAt (c : Dev nD) (n : ℕ) (h : n < cfg0.N) : FVec Ideal S128x1024 .f32 :=
  (outsAt0 m c n h).2.2.2.2.2.2.2.2.2.2.2.2.1

/-- The step's query product: of its rows, or at the last step of the mean rows. -/
def qProd (c : Dev nD) (t : Fin cfg0.N) : FVec Ideal S1024x256 .f32 :=
  if t.val < 16 then k0_pay13 (F := Ideal) (rowsAt m c t) (iblk m c 1 t)
  else k0_pay13 (F := Ideal) (xqS (F := Ideal) (sumAt m c (t.val - 1) (lt_of_le_of_lt (Nat.sub_le _ _) t.isLt))) (iblk m c 1 t)

/-- The step's key product. -/
def kProd (c : Dev nD) (t : Fin cfg0.N) : FVec Ideal S1024x256 .f32 := k0_pay13 (F := Ideal) (rowsAt m c t) (iblk m c 2 t)

/-- The step's value product. -/
def vProd (c : Dev nD) (t : Fin cfg0.N) : FVec Ideal S1024x256 .f32 := k0_pay13 (F := Ideal) (rowsAt m c t) (iblk m c 3 t)

/-- What step `t` writes back through window 4. -/
theorem flush4 (c : Dev nD) (t : Fin cfg0.N) :
    (dats m 0 c).flushed 4 t = (cfg0.win 4).cut (grid0.coords t) (codeG (qProd m c t)) := by
  have hN := lt_of_lt_of_eq t.isLt (show cfg0.N = 17 from N_0)
  by_cases h0 : t.val % 17 = 0
  · have h1 : ¬(3 ≤ t.val % 17 ∧ t.val % 17 ≤ 14) := by omega
    have h2 : ¬t.val % 17 = 16 := by omega
    have h3 : t.val < 16 := by omega
    rw [flushed4_A m c t h0 h1 h2 h3, out_A_4, rows11_eq]; unfold qProd; rw [if_pos h3]; rfl
  by_cases h1 : 3 ≤ t.val % 17 ∧ t.val % 17 ≤ 14
  · have h2 : ¬t.val % 17 = 16 := by omega
    have h3 : t.val < 16 := by omega
    rw [flushed4_C m c t h0 h1 h2 h3, out_C_4, rows11_eq]; unfold qProd; rw [if_pos h3]; rfl
  by_cases h2 : t.val % 17 = 16
  · have h3 : ¬t.val < 16 := by omega
    rw [flushed4_D m c t h0 h1 h2 h3, out_D_4]; unfold qProd; rw [if_neg h3]; rfl
  · have h3 : t.val < 16 := by omega
    rw [flushed4_B m c t h0 h1 h2 h3, out_B_4, rows11_eq]; unfold qProd; rw [if_pos h3]; rfl

/-- What step `t` writes back through window 5. -/
theorem flush5 (c : Dev nD) (t : Fin cfg0.N) :
    (dats m 0 c).flushed 5 t = (cfg0.win 5).cut (grid0.coords t) (scaleG (qProd m c t)) := by
  have hN := lt_of_lt_of_eq t.isLt (show cfg0.N = 17 from N_0)
  by_cases h0 : t.val % 17 = 0
  · have h1 : ¬(3 ≤ t.val % 17 ∧ t.val % 17 ≤ 14) := by omega
    have h2 : ¬t.val % 17 = 16 := by omega
    have h3 : t.val < 16 := by omega
    rw [flushed5_A m c t h0 h1 h2 h3, out_A_5, rows11_eq]; unfold qProd; rw [if_pos h3]; rfl
  by_cases h1 : 3 ≤ t.val % 17 ∧ t.val % 17 ≤ 14
  · have h2 : ¬t.val % 17 = 16 := by omega
    have h3 : t.val < 16 := by omega
    rw [flushed5_C m c t h0 h1 h2 h3, out_C_5, rows11_eq]; unfold qProd; rw [if_pos h3]; rfl
  by_cases h2 : t.val % 17 = 16
  · have h3 : ¬t.val < 16 := by omega
    rw [flushed5_D m c t h0 h1 h2 h3, out_D_5]; unfold qProd; rw [if_neg h3]; rfl
  · have h3 : t.val < 16 := by omega
    rw [flushed5_B m c t h0 h1 h2 h3, out_B_5, rows11_eq]; unfold qProd; rw [if_pos h3]; rfl

/-- What step `t` writes back through window 6. -/
theorem flush6 (c : Dev nD) (t : Fin cfg0.N) :
    (dats m 0 c).flushed 6 t = (cfg0.win 6).cut (grid0.coords t) (codeG (kProd m c t)) := by
  have hN := lt_of_lt_of_eq t.isLt (show cfg0.N = 17 from N_0)
  by_cases h0 : t.val % 17 = 0
  · have h1 : ¬(3 ≤ t.val % 17 ∧ t.val % 17 ≤ 14) := by omega
    have h2 : ¬t.val % 17 = 16 := by omega
    have h3 : t.val < 16 := by omega
    rw [flushed6_A m c t h0 h1 h2 h3, out_A_6]; rfl
  by_cases h1 : 3 ≤ t.val % 17 ∧ t.val % 17 ≤ 14
  · have h2 : ¬t.val % 17 = 16 := by omega
    have h3 : t.val < 16 := by omega
    rw [flushed6_C m c t h0 h1 h2 h3, out_C_6]; rfl
  by_cases h2 : t.val % 17 = 16
  · have h3 : ¬t.val < 16 := by omega
    rw [flushed6_D m c t h0 h1 h2 h3, out_D_6]; rfl
  · have h3 : t.val < 16 := by omega
    rw [flushed6_B m c t h0 h1 h2 h3, out_B_6]; rfl

/-- What step `t` writes back through window 7. -/
theorem flush7 (c : Dev nD) (t : Fin cfg0.N) :
    (dats m 0 c).flushed 7 t = (cfg0.win 7).cut (grid0.coords t) (scaleG (kProd m c t)) := by
  have hN := lt_of_lt_of_eq t.isLt (show cfg0.N = 17 from N_0)
  by_cases h0 : t.val % 17 = 0
  · have h1 : ¬(3 ≤ t.val % 17 ∧ t.val % 17 ≤ 14) := by omega
    have h2 : ¬t.val % 17 = 16 := by omega
    have h3 : t.val < 16 := by omega
    rw [flushed7_A m c t h0 h1 h2 h3, out_A_7]; rfl
  by_cases h1 : 3 ≤ t.val % 17 ∧ t.val % 17 ≤ 14
  · have h2 : ¬t.val % 17 = 16 := by omega
    have h3 : t.val < 16 := by omega
    rw [flushed7_C m c t h0 h1 h2 h3, out_C_7]; rfl
  by_cases h2 : t.val % 17 = 16
  · have h3 : ¬t.val < 16 := by omega
    rw [flushed7_D m c t h0 h1 h2 h3, out_D_7]; rfl
  · have h3 : t.val < 16 := by omega
    rw [flushed7_B m c t h0 h1 h2 h3, out_B_7]; rfl

/-- What step `t` writes back through window 8. -/
theorem flush8 (c : Dev nD) (t : Fin cfg0.N) :
    (dats m 0 c).flushed 8 t = (cfg0.win 8).cut (grid0.coords t) (codeG (vProd m c t)) := by
  have hN := lt_of_lt_of_eq t.isLt (show cfg0.N = 17 from N_0)
  by_cases h0 : t.val % 17 = 0
  · have h1 : ¬(3 ≤ t.val % 17 ∧ t.val % 17 ≤ 14) := by omega
    have h2 : ¬t.val % 17 = 16 := by omega
    have h3 : t.val < 16 := by omega
    rw [flushed8_A m c t h0 h1 h2 h3, out_A_8]; rfl
  by_cases h1 : 3 ≤ t.val % 17 ∧ t.val % 17 ≤ 14
  · have h2 : ¬t.val % 17 = 16 := by omega
    have h3 : t.val < 16 := by omega
    rw [flushed8_C m c t h0 h1 h2 h3, out_C_8]; rfl
  by_cases h2 : t.val % 17 = 16
  · have h3 : ¬t.val < 16 := by omega
    rw [flushed8_D m c t h0 h1 h2 h3, out_D_8]; rfl
  · have h3 : t.val < 16 := by omega
    rw [flushed8_B m c t h0 h1 h2 h3, out_B_8]; rfl

/-- What step `t` writes back through window 9. -/
theorem flush9 (c : Dev nD) (t : Fin cfg0.N) :
    (dats m 0 c).flushed 9 t = (cfg0.win 9).cut (grid0.coords t) (scaleG (vProd m c t)) := by
  have hN := lt_of_lt_of_eq t.isLt (show cfg0.N = 17 from N_0)
  by_cases h0 : t.val % 17 = 0
  · have h1 : ¬(3 ≤ t.val % 17 ∧ t.val % 17 ≤ 14) := by omega
    have h2 : ¬t.val % 17 = 16 := by omega
    have h3 : t.val < 16 := by omega
    rw [flushed9_A m c t h0 h1 h2 h3, out_A_9]; rfl
  by_cases h1 : 3 ≤ t.val % 17 ∧ t.val % 17 ≤ 14
  · have h2 : ¬t.val % 17 = 16 := by omega
    have h3 : t.val < 16 := by omega
    rw [flushed9_C m c t h0 h1 h2 h3, out_C_9]; rfl
  by_cases h2 : t.val % 17 = 16
  · have h3 : ¬t.val < 16 := by omega
    rw [flushed9_D m c t h0 h1 h2 h3, out_D_9]; rfl
  · have h3 : t.val < 16 := by omega
    rw [flushed9_B m c t h0 h1 h2 h3, out_B_9]; rfl

/-- The sums' buffer after the first step. -/
theorem sumAt_zero (c : Dev nD) (h : 0 < cfg0.N) : sumAt m c 0 h = k0_pay5 := by
  unfold sumAt
  rw [outsAt0_A m c ⟨0, h⟩ rfl (by show ¬(3 ≤ 0 % 17 ∧ 0 % 17 ≤ 14); omega) (by show ¬0 % 17 = 16; omega) (by show 0 < 16; omega)]
  dsimp only
  rw [sum_A]

/-- The sums' buffer after one of the steps 3 to 14: the step's two rows are added. -/
theorem sumAt_add (c : Dev nD) (n : ℕ) (h : n + 1 < cfg0.N) (h1 : 3 ≤ n + 1 ∧ n + 1 ≤ 14) :
    sumAt m c (n + 1) h = k0_pay8 (sumAt m c n (Nat.lt_of_succ_lt h)) (rowOf 0 (iblk m c 0 ⟨n + 1, h⟩)) (rowOf 1 (iblk m c 0 ⟨n + 1, h⟩)) := by
  unfold sumAt
  rw [outsAt0_C m c ⟨n + 1, h⟩ (by show ¬(n + 1) % 17 = 0; omega) (by show 3 ≤ (n + 1) % 17 ∧ (n + 1) % 17 ≤ 14; omega)
    (by show ¬(n + 1) % 17 = 16; omega) (by show n + 1 < 16; omega)]
  dsimp only
  rw [sum_C]
  rfl

/-- The sums' buffer after one of the steps 1, 2, 15: unchanged. -/
theorem sumAt_keep (c : Dev nD) (n : ℕ) (h : n + 1 < cfg0.N) (h1 : ¬(3 ≤ n + 1 ∧ n + 1 ≤ 14)) (h3 : n + 1 < 16) :
    sumAt m c (n + 1) h = sumAt m c n (Nat.lt_of_succ_lt h) := by
  unfold sumAt
  rw [outsAt0_B m c ⟨n + 1, h⟩ (by show ¬(n + 1) % 17 = 0; omega) (by show ¬(3 ≤ (n + 1) % 17 ∧ (n + 1) % 17 ≤ 14); omega)
    (by show ¬(n + 1) % 17 = 16; omega) (by show n + 1 < 16; omega)]
  rfl

end Cert.KernelIdeal.Hand

end
-- ==== Proof.Rows.lean ====
module

public import proofs.«01_k».proof.Proof.Chunk

@[expose] public section

noncomputable section

namespace Cert.Hand

open Idealize.ShloMosaic Cert.KernelIdeal.Hand

/-- The key and value rows of the step: six memories, four rows of right context, then the 24 rows of the segment. -/
def fullRow (x : (⟨3, ![128, 24, 1024]⟩ : Shape).Idx → EReal) (rc : (⟨3, ![128, 4, 1024]⟩ : Shape).Idx → EReal)
    (mems : (⟨3, ![128, 6, 1024]⟩ : Shape).Idx → EReal) (r : Fin 34) (b : Fin 128) (k : Fin 1024) : EReal :=
  if h : r.val < 6 then mems (ix3 b ⟨r.val, h⟩ k)
  else if h : r.val < 10 then rc (ix3 b ⟨r.val - 6, by omega⟩ k)
  else x (ix3 b ⟨r.val - 10, by omega⟩ k)

/-- The mean over the 24 rows of the segment. -/
def meanRow (x : (⟨3, ![128, 24, 1024]⟩ : Shape).Idx → EReal) (b : Fin 128) (k : Fin 1024) : EReal :=
  Ideal.div (∑ j : Fin 24, x (ix3 b j k)) (Ideal.ofBits .f32 0x41C00000#32)

/-- The query rows of the step: four rows of right context, the 24 rows of the segment, and their mean. -/
def qRow (x : (⟨3, ![128, 24, 1024]⟩ : Shape).Idx → EReal) (rc : (⟨3, ![128, 4, 1024]⟩ : Shape).Idx → EReal)
    (r : Fin 29) (b : Fin 128) (k : Fin 1024) : EReal :=
  if h : r.val < 4 then rc (ix3 b ⟨r.val, h⟩ k)
  else if h : r.val < 28 then x (ix3 b ⟨r.val - 4, by omega⟩ k)
  else meanRow x b k

/-- The projection of a row on head `h`. -/
def proj (row : Fin 1024 → EReal) (W : (⟨2, ![1024, 1024]⟩ : Shape).Idx → EReal) (h : Fin 16) (i : Fin 64) : EReal :=
  ∑ k : Fin 1024, row k * W (ix2 k ⟨64 * h.val + i.val, by omega⟩)

/-- The codes of `n` rows' projections, channels before the batch. -/
def codeArr {n : Nat} (row : Fin n → Fin 128 → Fin 1024 → EReal) (W : (⟨2, ![1024, 1024]⟩ : Shape).Idx → EReal) :
    (⟨3, ![n, 1024, 128]⟩ : Shape).Idx → EReal :=
  fun y => code (proj (row (y 0) (y 2)) W ⟨(y 1).val / 64, by have : (y 1).val < 1024 := (y 1).isLt; omega⟩)
    ⟨(y 1).val % 64, Nat.mod_lt _ (by norm_num)⟩

/-- The scales of `n` rows' projections, heads before the batch. -/
def scaleArr {n : Nat} (row : Fin n → Fin 128 → Fin 1024 → EReal) (W : (⟨2, ![1024, 1024]⟩ : Shape).Idx → EReal) :
    (⟨3, ![n, 16, 128]⟩ : Shape).Idx → EReal :=
  fun y => sclK (hmax (proj (row (y 0) (y 2)) W (y 1)))

end Cert.Hand

end
-- ==== Proof.Host.lean ====
module

public import proofs.«01_k».proof.Proof.Gen.KernelIdeal.Frame.Runs
public import proofs.«01_k».proof.Proof.Rows
public import Idealize.ShloMosaic.Lib.Claim

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.StableHlo

variable (m : (ℓ : Loc nD τ sig) → Buf (Elt Ideal) ℓ)

/-- The arguments as arrays of extended reals. -/
abbrev argX (c : Dev nD) : (⟨3, ![128, 24, 1024]⟩ : Shape).Idx → EReal := m ((c : Thread nD τ).loc main_arg0)
abbrev argRc (c : Dev nD) : (⟨3, ![128, 4, 1024]⟩ : Shape).Idx → EReal := m ((c : Thread nD τ).loc main_arg1)
abbrev argMems (c : Dev nD) : (⟨3, ![128, 6, 1024]⟩ : Shape).Idx → EReal := m ((c : Thread nD τ).loc main_arg2)
abbrev argQ (c : Dev nD) : (⟨2, ![1024, 1024]⟩ : Shape).Idx → EReal := m ((c : Thread nD τ).loc main_arg3)
abbrev argK (c : Dev nD) : (⟨2, ![1024, 1024]⟩ : Shape).Idx → EReal := m ((c : Thread nD τ).loc main_arg4)
abbrev argV (c : Dev nD) : (⟨2, ![1024, 1024]⟩ : Shape).Idx → EReal := m ((c : Thread nD τ).loc main_arg5)

/-- The weight of the queries before the call: transposed. -/
theorem V_q (c : Dev nD) (d k : Fin 1024) : V m c main_v7 (ix2 d k) = argQ m c (ix2 k d) := by
  have h : V m c main_v7 = transpose S1024x1024 [1, 0] (m ((c : Thread nD τ).loc main_arg3)) transposes_S1024x1024_S1024x1024_1_0 := by
    unfold_abbrev_sides
    after_results
  rw [h]
  refine transpose_apply _ _ _ _ _ fun b => ?_
  match b with
  | ⟨0, _⟩ => rfl
  | ⟨1, _⟩ => rfl

/-- The weight of the keys before the call: transposed. -/
theorem V_k (c : Dev nD) (d k : Fin 1024) : V m c main_v8 (ix2 d k) = argK m c (ix2 k d) := by
  have h : V m c main_v8 = transpose S1024x1024 [1, 0] (m ((c : Thread nD τ).loc main_arg4)) transposes_S1024x1024_S1024x1024_1_0 := by
    unfold_abbrev_sides
    after_results
  rw [h]
  refine transpose_apply _ _ _ _ _ fun b => ?_
  match b with
  | ⟨0, _⟩ => rfl
  | ⟨1, _⟩ => rfl

/-- The weight of the values before the call: transposed. -/
theorem V_v (c : Dev nD) (d k : Fin 1024) : V m c main_v9 (ix2 d k) = argV m c (ix2 k d) := by
  have h : V m c main_v9 = transpose S1024x1024 [1, 0] (m ((c : Thread nD τ).loc main_arg5)) transposes_S1024x1024_S1024x1024_1_0 := by
    unfold_abbrev_sides
    after_results
  rw [h]
  refine transpose_apply _ _ _ _ _ fun b => ?_
  match b with
  | ⟨0, _⟩ => rfl
  | ⟨1, _⟩ => rfl

/-- The row of the key order that the call's row `r` is. -/
def rowPerm (r : Fin 34) : Fin 34 :=
  if r.val < 2 then ⟨(r.val + 2) % 34, Nat.mod_lt _ (by norm_num)⟩ else if r.val < 30 then ⟨(r.val + 4) % 34, Nat.mod_lt _ (by norm_num)⟩
  else if r.val < 32 then ⟨r.val - 26, by omega⟩ else ⟨r.val - 32, by omega⟩

/-- Rows of the transposed segment, context and memories. -/
theorem swap_apply {n : Nat} (v : (⟨3, ![128, n, 1024]⟩ : Shape).Idx → EReal)
    (h : (⟨3, ![128, n, 1024]⟩ : Shape).Transposes [1, 0, 2] ⟨3, ![n, 128, 1024]⟩) (r : Fin n) (b : Fin 128) (k : Fin 1024) :
    transpose ⟨3, ![n, 128, 1024]⟩ [1, 0, 2] v h (ix3 r b k) = v (ix3 b r k) := by
  refine transpose_apply _ _ _ _ _ fun a => ?_
  match a with
  | ⟨0, _⟩ => rfl
  | ⟨1, _⟩ => rfl
  | ⟨2, _⟩ => rfl

/-- Two rows of the transposed memories. -/
theorem slice_apply (v : S6x128x1024.Idx → EReal) (o : Nat) (h : S6x128x1024.Slices ![o, 0, 0] S2x128x1024) (p : Fin 2) (q : Fin 6)
    (hq : q.val = o + p.val) (b : Fin 128) (k : Fin 1024) :
    extractStridedSlice S2x128x1024 ![o, 0, 0] v h (ix3 p b k) = v (ix3 q b k) := by
  refine extractStridedSlice_apply _ _ _ _ _ fun a => ?_
  match a with
  | ⟨0, _⟩ => exact hq
  | ⟨1, _⟩ => exact (Nat.zero_add _).symm
  | ⟨2, _⟩ => exact (Nat.zero_add _).symm

/-- The rows before the call: memories 2 and 3, the context, the segment, memories 4 and 5, memories 0 and 1. -/
theorem V_rows (c : Dev nD) (r : Fin 34) (b : Fin 128) (k : Fin 1024) :
    V m c main_v6 (ix3 r b k) = fullRow (argX m c) (argRc m c) (argMems m c) (rowPerm r) b k := by
  have h : V m c main_v6 = concatenate S34x128x1024 0
      [⟨S2x128x1024, extractStridedSlice S2x128x1024 ![2, 0, 0] (transpose S6x128x1024 [1, 0, 2] (argMems m c) transposes_S128x6x1024_S6x128x1024_1_0_2) slices_S6x128x1024_S2x128x1024_2_0_0⟩,
       ⟨S4x128x1024, transpose S4x128x1024 [1, 0, 2] (argRc m c) transposes_S128x4x1024_S4x128x1024_1_0_2⟩,
       ⟨S24x128x1024, transpose S24x128x1024 [1, 0, 2] (argX m c) transposes_S128x24x1024_S24x128x1024_1_0_2⟩,
       ⟨S2x128x1024, extractStridedSlice S2x128x1024 ![4, 0, 0] (transpose S6x128x1024 [1, 0, 2] (argMems m c) transposes_S128x6x1024_S6x128x1024_1_0_2) slices_S6x128x1024_S2x128x1024_4_0_0⟩,
       ⟨S2x128x1024, extractStridedSlice S2x128x1024 ![0, 0, 0] (transpose S6x128x1024 [1, 0, 2] (argMems m c) transposes_S128x6x1024_S6x128x1024_1_0_2) slices_S6x128x1024_S2x128x1024_0_0_0⟩]
      concatenates_S2x128x1024_S4x128x1024_S24x128x1024_S2x128x1024_S2x128x1024_S34x128x1024_d0 := by
    unfold_abbrev_sides
    after_results
    rfl
  rw [h]
  have hb {n : Nat} (p : Fin n) (q : Fin 34) : ∀ a : Fin 3, a.cast rfl ≠ (0 : Fin 3) →
      ((ix3 p b k : (⟨3, ![n, 128, 1024]⟩ : Shape).Idx) a).val = ((ix3 q b k : S34x128x1024.Idx) (a.cast rfl)).val := by
    intro a ha
    match a with
    | ⟨0, _⟩ => exact absurd rfl ha
    | ⟨1, _⟩ => rfl
    | ⟨2, _⟩ => rfl
  unfold rowPerm fullRow
  by_cases h1 : r.val < 2
  · rw [if_pos h1, dif_pos (by show (r.val + 2) % 34 < 6; omega)]
    refine (concatenate_apply_piece (t := S34x128x1024) 0 _ _ (ix3 r b k) 0 (by show 0 < 5; decide) S2x128x1024 _ (by rfl) rfl 0 (by rfl) (ix3 ⟨r.val, h1⟩ b k) (hb _ _) (Nat.zero_add _)).trans ?_
    refine (slice_apply _ 2 _ ⟨r.val, h1⟩ ⟨(r.val + 2) % 34, by omega⟩ (by show (r.val + 2) % 34 = 2 + r.val; omega) b k).trans ?_
    exact swap_apply _ _ _ _ _
  by_cases h2 : r.val < 6
  · rw [if_neg h1, if_pos (by omega), dif_neg (by show ¬(r.val + 4) % 34 < 6; omega), dif_pos (by show (r.val + 4) % 34 < 10; omega)]
    refine (concatenate_apply_piece (t := S34x128x1024) 0 _ _ (ix3 r b k) 1 (by show 1 < 5; decide) S4x128x1024 _ (by rfl) rfl 2 (by rfl) (ix3 ⟨r.val - 2, by omega⟩ b k) (hb _ _) (by show 2 + (r.val - 2) = r.val; omega)).trans ?_
    refine (swap_apply _ _ _ _ _).trans ?_
    exact congrArg (fun i => argRc m c (ix3 b i k)) (Fin.ext (by show r.val - 2 = (r.val + 4) % 34 - 6; omega))
  by_cases h3 : r.val < 30
  · rw [if_neg h1, if_pos (by omega), dif_neg (by show ¬(r.val + 4) % 34 < 6; omega), dif_neg (by show ¬(r.val + 4) % 34 < 10; omega)]
    refine (concatenate_apply_piece (t := S34x128x1024) 0 _ _ (ix3 r b k) 2 (by show 2 < 5; decide) S24x128x1024 _ (by rfl) rfl 6 (by rfl) (ix3 ⟨r.val - 6, by omega⟩ b k) (hb _ _) (by show 6 + (r.val - 6) = r.val; omega)).trans ?_
    refine (swap_apply _ _ _ _ _).trans ?_
    exact congrArg (fun i => argX m c (ix3 b i k)) (Fin.ext (by show r.val - 6 = (r.val + 4) % 34 - 10; omega))
  by_cases h4 : r.val < 32
  · rw [if_neg h1, if_neg h3, if_pos h4, dif_pos (by show r.val - 26 < 6; omega)]
    refine (concatenate_apply_piece (t := S34x128x1024) 0 _ _ (ix3 r b k) 3 (by show 3 < 5; decide) S2x128x1024 _ (by rfl) rfl 30 (by rfl) (ix3 ⟨r.val - 30, by omega⟩ b k) (hb _ _) (by show 30 + (r.val - 30) = r.val; omega)).trans ?_
    refine (slice_apply _ 4 _ ⟨r.val - 30, by omega⟩ ⟨r.val - 26, by omega⟩ (by show r.val - 26 = 4 + (r.val - 30); omega) b k).trans ?_
    exact swap_apply _ _ _ _ _
  · have hr := r.isLt
    rw [if_neg h1, if_neg h3, if_neg h4, dif_pos (by show r.val - 32 < 6; omega)]
    refine (concatenate_apply_piece (t := S34x128x1024) 0 _ _ (ix3 r b k) 4 (by show 4 < 5; decide) S2x128x1024 _ (by rfl) rfl 32 (by rfl) (ix3 ⟨r.val - 32, by omega⟩ b k) (hb _ _) (by show 32 + (r.val - 32) = r.val; omega)).trans ?_
    refine (slice_apply _ 0 _ ⟨r.val - 32, by omega⟩ ⟨r.val - 32, by omega⟩ (by show r.val - 32 = 0 + (r.val - 32); omega) b k).trans ?_
    exact swap_apply _ _ _ _ _

end Cert.KernelIdeal.Hand

end
-- ==== Proof.Entries.lean ====
module

public import proofs.«01_k».proof.Proof.Flush
public import proofs.«01_k».proof.Proof.Host

@[expose] public section

noncomputable section

namespace Cert.KernelIdeal.Hand

open Cert.KernelIdeal Cert.KernelIdeal.Gen Cert.Hand
open Idealize.ShloMosaic Idealize.ShloMosaic.TcCoe

variable (m : (ℓ : Loc nD τ sig) → Buf (Elt Ideal) ℓ)

/-- Step `t` reads the rows from `2 t` on. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Every step reads the three weights whole. -/
theorem idxW : ∀ t : Fin cfg0.N, (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0))

/-- The grid has 17 steps. -/
theorem lt17 (t : Fin cfg0.N) : t.val < 17 := lt_of_lt_of_eq t.isLt (show cfg0.N = 17 from N_0)

/-- The rows a step reads. -/
theorem iblk0_apply (c : Dev nD) (t : Fin cfg0.N) (p : Fin 2) (b : Fin 128) (k : Fin 1024) :
    (iblk m c 0 t : Vec Ideal S2x128x1024 .bf16) (ix3 p b k)
      = fullRow (argX m c) (argRc m c) (argMems m c) (rowPerm ⟨2 * t.val + p.val, by have := lt17 t; omega⟩) b k := by
  obtain ⟨e0, e1, e2⟩ := idx0 t
  rw [← V_rows]
  show V m c main_v6 (((cfg0.win 0).blk t).view.emb (ix3 p b k)) = _
  refine congrArg (V m c main_v6) (funext fun a => Fin.ext ?_)
  match a with
  | ⟨0, _⟩ => show win0_0.index t (0 : Fin 3) * 2 + 1 * p.val = 2 * t.val + p.val; omega
  | ⟨1, _⟩ => show win0_0.index t (1 : Fin 3) * 128 + 1 * b.val = b.val; omega
  | ⟨2, _⟩ => show win0_0.index t (2 : Fin 3) * 1024 + 1 * k.val = k.val; omega

/-- The query weight as a step reads it. -/
theorem iblk1_apply (c : Dev nD) (t : Fin cfg0.N) (d k : Fin 1024) :
    (iblk m c 1 t : Vec Ideal S1024x1024 .bf16) (ix2 d k) = argQ m c (ix2 k d) := by
  obtain ⟨⟨e0, e1⟩, -, -⟩ := idxW t
  rw [← V_q]
  show V m c main_v7 (((cfg0.win 1).blk t).view.emb (ix2 d k)) = _
  refine congrArg (V m c main_v7) (funext fun a => Fin.ext ?_)
  match a with
  | ⟨0, _⟩ => show win0_1.index t (0 : Fin 2) * 1024 + 1 * d.val = d.val; omega
  | ⟨1, _⟩ => show win0_1.index t (1 : Fin 2) * 1024 + 1 * k.val = k.val; omega

/-- The key weight as a step reads it. -/
theorem iblk2_apply (c : Dev nD) (t : Fin cfg0.N) (d k : Fin 1024) :
    (iblk m c 2 t : Vec Ideal S1024x1024 .bf16) (ix2 d k) = argK m c (ix2 k d) := by
  obtain ⟨-, ⟨e0, e1⟩, -⟩ := idxW t
  rw [← V_k]
  show V m c main_v8 (((cfg0.win 2).blk t).view.emb (ix2 d k)) = _
  refine congrArg (V m c main_v8) (funext fun a => Fin.ext ?_)
  match a with
  | ⟨0, _⟩ => show win0_2.index t (0 : Fin 2) * 1024 + 1 * d.val = d.val; omega
  | ⟨1, _⟩ => show win0_2.index t (1 : Fin 2) * 1024 + 1 * k.val = k.val; omega

/-- The value weight as a step reads it. -/
theorem iblk3_apply (c : Dev nD) (t : Fin cfg0.N) (d k : Fin 1024) :
    (iblk m c 3 t : Vec Ideal S1024x1024 .bf16) (ix2 d k) = argV m c (ix2 k d) := by
  obtain ⟨-, -, ⟨e0, e1⟩⟩ := idxW t
  rw [← V_v]
  show V m c main_v9 (((cfg0.win 3).blk t).view.emb (ix2 d k)) = _
  refine congrArg (V m c main_v9) (funext fun a => Fin.ext ?_)
  match a with
  | ⟨0, _⟩ => show win0_3.index t (0 : Fin 2) * 1024 + 1 * d.val = d.val; omega
  | ⟨1, _⟩ => show win0_3.index t (1 : Fin 2) * 1024 + 1 * k.val = k.val; omega

/-- The step's 256 rows. -/
theorem rowsAt_apply (c : Dev nD) (t : Fin cfg0.N) (n : Fin 256) (p : Fin 2) (b : Fin 128) (hn : n.val = 128 * p.val + b.val) (k : Fin 1024) :
    rowsAt m c t (ix2 n k)
      = fullRow (argX m c) (argRc m c) (argMems m c) (rowPerm ⟨2 * t.val + p.val, by have := lt17 t; omega⟩) b k := by
  unfold rowsAt
  rw [rows12_apply, ← iblk0_apply]
  refine congrArg (iblk m c 0 t : Vec Ideal S2x128x1024 .bf16) (funext fun a => Fin.ext ?_)
  match a with
  | ⟨0, _⟩ => show n.val / 128 = p.val; omega
  | ⟨1, _⟩ => show n.val % 128 = b.val; omega
  | ⟨2, _⟩ => rfl

/-- The step's key product. -/
theorem kProd_apply (c : Dev nD) (t : Fin cfg0.N) (d : Fin 1024) (n : Fin 256) (p : Fin 2) (b : Fin 128) (hn : n.val = 128 * p.val + b.val) :
    (kProd m c t (ix2 d n) : EReal)
      = ∑ k : Fin 1024, fullRow (argX m c) (argRc m c) (argMems m c) (rowPerm ⟨2 * t.val + p.val, by have := lt17 t; omega⟩) b k * argK m c (ix2 k d) := by
  unfold kProd
  rw [prod_apply]
  refine Finset.sum_congr rfl fun k _ => ?_
  rw [rowsAt_apply m c t n p b hn, iblk2_apply, mul_comm]

/-- The step's value product. -/
theorem vProd_apply (c : Dev nD) (t : Fin cfg0.N) (d : Fin 1024) (n : Fin 256) (p : Fin 2) (b : Fin 128) (hn : n.val = 128 * p.val + b.val) :
    (vProd m c t (ix2 d n) : EReal)
      = ∑ k : Fin 1024, fullRow (argX m c) (argRc m c) (argMems m c) (rowPerm ⟨2 * t.val + p.val, by have := lt17 t; omega⟩) b k * argV m c (ix2 k d) := by
  unfold vProd
  rw [prod_apply]
  refine Finset.sum_congr rfl fun k _ => ?_
  rw [rowsAt_apply m c t n p b hn, iblk3_apply, mul_comm]

/-- The segment's row `j`, 0 beyond the segment. -/
def xRow (c : Dev nD) (b : Fin 128) (k : Fin 1024) (j : ℕ) : EReal := if h : j < 24 then argX m c (ix3 b ⟨j, h⟩ k) else 0

/-- The rows of the steps 3 to 14 are rows of the segment. -/
theorem segRow (c : Dev nD) (r : Fin 34) (h : 6 ≤ r.val) (h' : r.val < 30) (b : Fin 128) (k : Fin 1024) :
    fullRow (argX m c) (argRc m c) (argMems m c) (rowPerm r) b k = xRow m c b k (r.val - 6) := by
  unfold rowPerm fullRow xRow
  rw [if_neg (by omega), if_pos h', dif_neg (by show ¬(r.val + 4) % 34 < 6; omega), dif_neg (by show ¬(r.val + 4) % 34 < 10; omega),
    dif_pos (by omega : r.val - 6 < 24)]
  exact congrArg (fun i => argX m c (ix3 b i k)) (Fin.ext (by show (r.val + 4) % 34 - 10 = r.val - 6; omega))

/-- After step `n`, 2 to 14, the sums run over the segment's first `2 (n - 2)` rows. -/
theorem sumAt_apply (c : Dev nD) (b : Fin 128) (k : Fin 1024) (n : ℕ) (hn : n + 2 ≤ 14) (h : n + 2 < cfg0.N) :
    (sumAt m c (n + 2) h (ix2 b k) : EReal) = ∑ j ∈ Finset.range (2 * n), xRow m c b k j := by
  induction n with
  | zero =>
    rw [sumAt_keep m c 1 h (by omega) (by omega), sumAt_keep m c 0 _ (by omega) (by omega), sumAt_zero, sum0_apply]
    rfl
  | succ n ih =>
    rw [sumAt_add m c (n + 2) h (by omega), sum_apply, ih (by omega)]
    have e2 : ∑ j ∈ Finset.range (2 * (n + 1)), xRow m c b k j
        = ∑ j ∈ Finset.range (2 * n), xRow m c b k j + (xRow m c b k (2 * n) + xRow m c b k (2 * n + 1)) := by
      rw [show 2 * (n + 1) = 2 * n + 1 + 1 by omega, Finset.sum_range_succ, Finset.sum_range_succ, add_assoc]
    rw [e2]
    have e (r : Fin 2) : (rowOf r (iblk m c 0 ⟨n + 2 + 1, h⟩ : Vec Ideal S2x128x1024 .bf16) (ix3 0 b k) : EReal) = xRow m c b k (2 * n + r.val) := by
      show (iblk m c 0 ⟨n + 2 + 1, h⟩ : Vec Ideal S2x128x1024 .bf16) (ix3 r b k) = _
      rw [iblk0_apply, segRow m c _ (by show 6 ≤ 2 * (n + 2 + 1) + r.val; omega) (by show 2 * (n + 2 + 1) + r.val < 30; omega)]
      exact congrArg (xRow m c b k) (by show 2 * (n + 2 + 1) + r.val - 6 = 2 * n + r.val; omega)
    rw [e 0, e 1]
    rfl

/-- The sums the last step reads run over the whole segment. -/
theorem sumAt_last (c : Dev nD) (b : Fin 128) (k : Fin 1024) (h : 15 < cfg0.N) :
    (sumAt m c 15 h (ix2 b k) : EReal) = ∑ j : Fin 24, argX m c (ix3 b j k) := by
  rw [sumAt_keep m c 14 h (by omega) (by omega), sumAt_apply m c b k 12 (by omega), Finset.sum_range]
  exact Finset.sum_congr rfl fun j _ => dif_pos j.isLt

/-- The query product of the steps before the last. -/
theorem qProd_apply (c : Dev nD) (t : Fin cfg0.N) (ht : t.val < 16) (d : Fin 1024) (n : Fin 256) (p : Fin 2) (b : Fin 128)
    (hn : n.val = 128 * p.val + b.val) :
    (qProd m c t (ix2 d n) : EReal)
      = ∑ k : Fin 1024, fullRow (argX m c) (argRc m c) (argMems m c) (rowPerm ⟨2 * t.val + p.val, by have := lt17 t; omega⟩) b k * argQ m c (ix2 k d) := by
  unfold qProd
  rw [if_pos ht, prod_apply]
  refine Finset.sum_congr rfl fun k _ => ?_
  rw [rowsAt_apply m c t n p b hn, iblk1_apply, mul_comm]

/-- The query product of the last step, on its first 128 rows. -/
theorem qProd_last (c : Dev nD) (t : Fin cfg0.N) (ht : t.val = 16) (d : Fin 1024) (n : Fin 256) (b : Fin 128) (hn : n.val = b.val) :
    (qProd m c t (ix2 d n) : EReal) = ∑ k : Fin 1024, meanRow (argX m c) b k * argQ m c (ix2 k d) := by
  obtain ⟨t, h⟩ := t
  simp only at ht
  subst ht
  unfold qProd
  rw [if_neg (by show ¬16 < 16; omega), prod_apply]
  refine Finset.sum_congr rfl fun k _ => ?_
  rw [xqS_apply _ n (by omega), iblk1_apply, mul_comm]
  have hb : (⟨n.val, by omega⟩ : Fin 128) = b := Fin.ext hn
  rw [hb]
  unfold meanRow
  rw [← sumAt_last m c b k (by have := h; omega)]
  rfl

end Cert.KernelIdeal.Hand

end
-- ==== Proof.Arrays.lean ====
module

public import proofs.«01_k».proof.Proof.Entries
public import Idealize.ShloMosaic.Lib.Pipeline.ValueKit.Geometry

@[expose] public section

noncomputable section

namespace Cert.KernelIdeal.Hand

open Cert.KernelIdeal Cert.KernelIdeal.Gen Cert.Hand
open Idealize.ShloMosaic Idealize.ShloMosaic.TcCoe

/-- The codes a step stores are the codes of the rows whose projections its product holds. -/
theorem codeG_eq {n : ℕ} (P : FVec Ideal S1024x256 .f32) (row : Fin n → Fin 128 → Fin 1024 → EReal)
    (W : (⟨2, ![1024, 1024]⟩ : Shape).Idx → EReal) (y : S2x1024x128.Idx) (z : (⟨3, ![n, 1024, 128]⟩ : Shape).Idx)
    (h1 : (z 1).val = (y 1).val)
    (hP : ∀ (d : Fin 1024) (q : Fin 256), q.val = 128 * (y 0).val + (y 2).val →
      (P (ix2 d q) : EReal) = ∑ k : Fin 1024, row (z 0) (z 2) k * W (ix2 k d)) :
    codeG P y = codeArr row W z := by
  unfold codeG codeArr
  have e : (fun i => headAll P ⟨(y 1).val / 64, by have : (y 1).val < 1024 := (y 1).isLt; omega⟩
      ⟨128 * (y 0).val + (y 2).val, by have h0 : (y 0).val < 2 := (y 0).isLt; have h2 : (y 2).val < 128 := (y 2).isLt; omega⟩ i)
      = proj (row (z 0) (z 2)) W ⟨(z 1).val / 64, by have : (z 1).val < 1024 := (z 1).isLt; omega⟩ := by
    funext i
    refine (hP _ _ rfl).trans ?_
    unfold proj
    refine Finset.sum_congr rfl fun k _ => ?_
    refine congrArg (fun d => row (z 0) (z 2) k * W (ix2 k d)) (Fin.ext ?_)
    show 64 * ((y 1).val / 64) + i.val = 64 * ((z 1).val / 64) + i.val
    rw [h1]
  rw [show headAll P _ _ = _ from e]
  refine congrArg _ (Fin.ext ?_)
  show (y 1).val % 64 = (z 1).val % 64
  rw [h1]

/-- The scales a step stores are the scales of the rows whose projections its product holds. -/
theorem scaleG_eq {n : ℕ} (P : FVec Ideal S1024x256 .f32) (row : Fin n → Fin 128 → Fin 1024 → EReal)
    (W : (⟨2, ![1024, 1024]⟩ : Shape).Idx → EReal) (y : S2x16x128.Idx) (z : (⟨3, ![n, 16, 128]⟩ : Shape).Idx)
    (h1 : (z 1).val = (y 1).val)
    (hP : ∀ (d : Fin 1024) (q : Fin 256), q.val = 128 * (y 0).val + (y 2).val →
      (P (ix2 d q) : EReal) = ∑ k : Fin 1024, row (z 0) (z 2) k * W (ix2 k d)) :
    scaleG P y = scaleArr row W z := by
  unfold scaleG scaleArr
  refine congrArg (fun f => sclK (hmax f)) (funext fun i => (hP _ _ rfl).trans ?_)
  unfold proj
  refine Finset.sum_congr rfl fun k _ => ?_
  refine congrArg (fun d => row (z 0) (z 2) k * W (ix2 k d)) (Fin.ext ?_)
  show 64 * (y 1).val + i.val = 64 * (z 1).val + i.val
  rw [h1]

variable (m : (ℓ : Loc nD τ sig) → Buf (Elt Ideal) ℓ)

/-- The query rows before the mean, as the steps 1 to 14 read them. -/
theorem qRow_early (c : Dev nD) (r : Fin 34) (s : Fin 29) (h : s.val + 2 = r.val) (h' : r.val < 30) (b : Fin 128) (k : Fin 1024) :
    fullRow (argX m c) (argRc m c) (argMems m c) (rowPerm r) b k = qRow (argX m c) (argRc m c) s b k := by
  unfold rowPerm fullRow qRow
  rw [if_neg (by omega), if_pos h', dif_neg (by show ¬(r.val + 4) % 34 < 6; omega)]
  by_cases h4 : s.val < 4
  · rw [dif_pos (by show (r.val + 4) % 34 < 10; omega), dif_pos h4]
    exact congrArg (fun i => argRc m c (ix3 b i k)) (Fin.ext (by show (r.val + 4) % 34 - 6 = s.val; omega))
  · rw [dif_neg (by show ¬(r.val + 4) % 34 < 10; omega), dif_neg h4, dif_pos (by omega)]
    exact congrArg (fun i => argX m c (ix3 b i k)) (Fin.ext (by show (r.val + 4) % 34 - 10 = s.val - 4; omega))

/-- The last query row is the mean. -/
theorem qRow_last (c : Dev nD) (s : Fin 29) (h : s.val = 28) (b : Fin 128) (k : Fin 1024) :
    qRow (argX m c) (argRc m c) s b k = meanRow (argX m c) b k := by
  unfold qRow
  rw [dif_neg (by omega), dif_neg (by omega)]

/-- When and where a step stores window 4: steps 1 to 14 store the rows of right context and segment, the last step one row. -/
theorem idx4 : ∀ t : Fin cfg0.N, (win0_4.index t (1 : Fin 3) = 0 ∧ win0_4.index t (2 : Fin 3) = 0)
    ∧ (win0_4.flush t = true → (1 ≤ t.val ∧ t.val ≤ 14 ∧ win0_4.index t (0 : Fin 3) + 1 = t.val)
      ∨ (t.val = 16 ∧ win0_4.index t (0 : Fin 3) = 14 ∧ win0_4.xsize (grid0.coords t) (0 : Fin 3) = 1)) :=
  (by decide +kernel : ∀ t : Fin grid0.N, (win0_4.index t (1 : Fin 3) = 0 ∧ win0_4.index t (2 : Fin 3) = 0)
    ∧ (win0_4.flush t = true → (1 ≤ t.val ∧ t.val ≤ 14 ∧ win0_4.index t (0 : Fin 3) + 1 = t.val)
      ∨ (t.val = 16 ∧ win0_4.index t (0 : Fin 3) = 14 ∧ win0_4.xsize (grid0.coords t) (0 : Fin 3) = 1)))

/-- WHAT THE RUN LEAVES in window 4's array. -/
theorem final4 (c : Dev nD) : (dats m 0 c).arrAt 4 cfg0.N
    = codeArr (qRow (argX m c) (argRc m c)) (argQ m c) := by
  refine (dats m 0 c).arrAt_eq_of_cover 4 _ (fun t ht => ?_)
    (Pipeline.Window.Covers.cover (w := cfg0.win 4) (by decide +kernel) (Memref.isWhole_whole _))
  rw [flush4]
  funext j
  obtain ⟨⟨e1, e2⟩, e0⟩ := idx4 t
  have l0x : (j (0 : Fin 3)).val < win0_4.xsize (grid0.coords t) (0 : Fin 3) := (j (0 : Fin 3)).isLt
  have l0 : (j (0 : Fin 3)).val < 2 := lt_of_lt_of_le l0x (win0_4.xsize_le _ _)
  have l2 : (j (2 : Fin 3)).val < 128 := lt_of_lt_of_le (show (j (2 : Fin 3)).val < win0_4.xsize (grid0.coords t) (2 : Fin 3) from (j (2 : Fin 3)).isLt) (win0_4.xsize_le _ _)
  have lt := lt17 t
  show codeG (qProd m c t) ((cfg0.win 4).xinj (grid0.coords t) j) = codeArr _ _ (((cfg0.win 4).blk t).view.emb j)
  refine codeG_eq _ _ _ _ _ ?_ fun d q hq => ?_
  · show win0_4.index t (1 : Fin 3) * 1024 + 1 * (j (1 : Fin 3)).val = (j (1 : Fin 3)).val
    omega
  · have hq : q.val = 128 * (j (0 : Fin 3)).val + (j (2 : Fin 3)).val := hq
    have i0 : (((cfg0.win 4).blk t).view.emb j (0 : Fin 3)).val = win0_4.index t (0 : Fin 3) * 2 + 1 * (j (0 : Fin 3)).val := rfl
    have i2 : (⟨(j (2 : Fin 3)).val, l2⟩ : Fin 128) = (((cfg0.win 4).blk t).view.emb j (2 : Fin 3) : Fin 128) := Fin.ext (by
      show (j (2 : Fin 3)).val = win0_4.index t (2 : Fin 3) * 128 + 1 * (j (2 : Fin 3)).val
      omega)
    rcases e0 ht with ⟨h1, h2, e0⟩ | ⟨h1, e0, ex⟩
    · rw [qProd_apply m c t (by omega) d q ⟨(j (0 : Fin 3)).val, l0⟩ ⟨(j (2 : Fin 3)).val, l2⟩ hq]
      refine Finset.sum_congr rfl fun k _ => ?_
      rw [← i2, qRow_early m c _ (((cfg0.win 4).blk t).view.emb j (0 : Fin 3) : Fin 29)
        (by show (((cfg0.win 4).blk t).view.emb j (0 : Fin 3)).val + 2 = 2 * t.val + (j (0 : Fin 3)).val; rw [i0]; omega)
        (by show 2 * t.val + (j (0 : Fin 3)).val < 30; omega)]
    · rw [qProd_last m c t h1 d q ⟨(j (2 : Fin 3)).val, l2⟩ (by show q.val = (j (2 : Fin 3)).val; omega)]
      refine Finset.sum_congr rfl fun k _ => ?_
      rw [← i2, qRow_last m c (((cfg0.win 4).blk t).view.emb j (0 : Fin 3) : Fin 29) (by rw [i0]; omega)]

/-- When and where a step stores window 5: steps 1 to 14 store the rows of right context and segment, the last step one row. -/
theorem idx5 : ∀ t : Fin cfg0.N, (win0_5.index t (1 : Fin 3) = 0 ∧ win0_5.index t (2 : Fin 3) = 0)
    ∧ (win0_5.flush t = true → (1 ≤ t.val ∧ t.val ≤ 14 ∧ win0_5.index t (0 : Fin 3) + 1 = t.val)
      ∨ (t.val = 16 ∧ win0_5.index t (0 : Fin 3) = 14 ∧ win0_5.xsize (grid0.coords t) (0 : Fin 3) = 1)) :=
  (by decide +kernel : ∀ t : Fin grid0.N, (win0_5.index t (1 : Fin 3) = 0 ∧ win0_5.index t (2 : Fin 3) = 0)
    ∧ (win0_5.flush t = true → (1 ≤ t.val ∧ t.val ≤ 14 ∧ win0_5.index t (0 : Fin 3) + 1 = t.val)
      ∨ (t.val = 16 ∧ win0_5.index t (0 : Fin 3) = 14 ∧ win0_5.xsize (grid0.coords t) (0 : Fin 3) = 1)))

/-- WHAT THE RUN LEAVES in window 5's array. -/
theorem final5 (c : Dev nD) : (dats m 0 c).arrAt 5 cfg0.N
    = scaleArr (qRow (argX m c) (argRc m c)) (argQ m c) := by
  refine (dats m 0 c).arrAt_eq_of_cover 5 _ (fun t ht => ?_)
    (Pipeline.Window.Covers.cover (w := cfg0.win 5) (by decide +kernel) (Memref.isWhole_whole _))
  rw [flush5]
  funext j
  obtain ⟨⟨e1, e2⟩, e0⟩ := idx5 t
  have l0x : (j (0 : Fin 3)).val < win0_5.xsize (grid0.coords t) (0 : Fin 3) := (j (0 : Fin 3)).isLt
  have l0 : (j (0 : Fin 3)).val < 2 := lt_of_lt_of_le l0x (win0_5.xsize_le _ _)
  have l2 : (j (2 : Fin 3)).val < 128 := lt_of_lt_of_le (show (j (2 : Fin 3)).val < win0_5.xsize (grid0.coords t) (2 : Fin 3) from (j (2 : Fin 3)).isLt) (win0_5.xsize_le _ _)
  have lt := lt17 t
  show scaleG (qProd m c t) ((cfg0.win 5).xinj (grid0.coords t) j) = scaleArr _ _ (((cfg0.win 5).blk t).view.emb j)
  refine scaleG_eq _ _ _ _ _ ?_ fun d q hq => ?_
  · show win0_5.index t (1 : Fin 3) * 16 + 1 * (j (1 : Fin 3)).val = (j (1 : Fin 3)).val
    omega
  · have hq : q.val = 128 * (j (0 : Fin 3)).val + (j (2 : Fin 3)).val := hq
    have i0 : (((cfg0.win 5).blk t).view.emb j (0 : Fin 3)).val = win0_5.index t (0 : Fin 3) * 2 + 1 * (j (0 : Fin 3)).val := rfl
    have i2 : (⟨(j (2 : Fin 3)).val, l2⟩ : Fin 128) = (((cfg0.win 5).blk t).view.emb j (2 : Fin 3) : Fin 128) := Fin.ext (by
      show (j (2 : Fin 3)).val = win0_5.index t (2 : Fin 3) * 128 + 1 * (j (2 : Fin 3)).val
      omega)
    rcases e0 ht with ⟨h1, h2, e0⟩ | ⟨h1, e0, ex⟩
    · rw [qProd_apply m c t (by omega) d q ⟨(j (0 : Fin 3)).val, l0⟩ ⟨(j (2 : Fin 3)).val, l2⟩ hq]
      refine Finset.sum_congr rfl fun k _ => ?_
      rw [← i2, qRow_early m c _ (((cfg0.win 5).blk t).view.emb j (0 : Fin 3) : Fin 29)
        (by show (((cfg0.win 5).blk t).view.emb j (0 : Fin 3)).val + 2 = 2 * t.val + (j (0 : Fin 3)).val; rw [i0]; omega)
        (by show 2 * t.val + (j (0 : Fin 3)).val < 30; omega)]
    · rw [qProd_last m c t h1 d q ⟨(j (2 : Fin 3)).val, l2⟩ (by show q.val = (j (2 : Fin 3)).val; omega)]
      refine Finset.sum_congr rfl fun k _ => ?_
      rw [← i2, qRow_last m c (((cfg0.win 5).blk t).view.emb j (0 : Fin 3) : Fin 29) (by rw [i0]; omega)]

/-- Where a step stores window 6: the rows in the order memories, right context, segment. -/
theorem idx6 : ∀ t : Fin cfg0.N, (win0_6.index t (1 : Fin 3) = 0 ∧ win0_6.index t (2 : Fin 3) = 0)
    ∧ ∀ p : Fin 2, ∀ h : 2 * t.val + p.val < 34, win0_6.index t (0 : Fin 3) * 2 + p.val = (rowPerm ⟨2 * t.val + p.val, h⟩).val :=
  (by decide +kernel : ∀ t : Fin grid0.N, (win0_6.index t (1 : Fin 3) = 0 ∧ win0_6.index t (2 : Fin 3) = 0)
    ∧ ∀ p : Fin 2, ∀ h : 2 * t.val + p.val < 34, win0_6.index t (0 : Fin 3) * 2 + p.val = (rowPerm ⟨2 * t.val + p.val, h⟩).val)

/-- WHAT THE RUN LEAVES in window 6's array. -/
theorem final6 (c : Dev nD) : (dats m 0 c).arrAt 6 cfg0.N
    = codeArr (fullRow (argX m c) (argRc m c) (argMems m c)) (argK m c) := by
  refine (dats m 0 c).arrAt_eq_of_cover 6 _ (fun t _ => ?_)
    (Pipeline.Window.Covers.cover (w := cfg0.win 6) (by decide +kernel) (Memref.isWhole_whole _))
  rw [flush6]
  funext j
  obtain ⟨⟨e1, e2⟩, e0⟩ := idx6 t
  have l0 : (j (0 : Fin 3)).val < 2 := (j (0 : Fin 3)).isLt
  have l2 : (j (2 : Fin 3)).val < 128 := (j (2 : Fin 3)).isLt
  have lt := lt17 t
  have e0 := e0 ⟨(j (0 : Fin 3)).val, l0⟩ (by show 2 * t.val + (j (0 : Fin 3)).val < 34; omega)
  show codeG (kProd m c t) ((cfg0.win 6).xinj (grid0.coords t) j) = codeArr _ _ (((cfg0.win 6).blk t).view.emb j)
  refine codeG_eq _ _ _ _ _ ?_ fun d q hq => ?_
  · show win0_6.index t (1 : Fin 3) * 1024 + 1 * (j (1 : Fin 3)).val = (j (1 : Fin 3)).val
    omega
  · rw [kProd_apply m c t d q ⟨(j (0 : Fin 3)).val, l0⟩ ⟨(j (2 : Fin 3)).val, l2⟩ hq]
    have i0 : rowPerm ⟨2 * t.val + (j (0 : Fin 3)).val, by omega⟩ = (((cfg0.win 6).blk t).view.emb j (0 : Fin 3) : Fin 34) := Fin.ext (by
      show (rowPerm ⟨2 * t.val + (j (0 : Fin 3)).val, _⟩).val = win0_6.index t (0 : Fin 3) * 2 + 1 * (j (0 : Fin 3)).val
      rw [one_mul]
      exact e0.symm)
    have i2 : (⟨(j (2 : Fin 3)).val, l2⟩ : Fin 128) = (((cfg0.win 6).blk t).view.emb j (2 : Fin 3) : Fin 128) := Fin.ext (by
      show (j (2 : Fin 3)).val = win0_6.index t (2 : Fin 3) * 128 + 1 * (j (2 : Fin 3)).val
      omega)
    exact Finset.sum_congr rfl fun k _ => by rw [← i0, ← i2]

/-- Where a step stores window 7: the rows in the order memories, right context, segment. -/
theorem idx7 : ∀ t : Fin cfg0.N, (win0_7.index t (1 : Fin 3) = 0 ∧ win0_7.index t (2 : Fin 3) = 0)
    ∧ ∀ p : Fin 2, ∀ h : 2 * t.val + p.val < 34, win0_7.index t (0 : Fin 3) * 2 + p.val = (rowPerm ⟨2 * t.val + p.val, h⟩).val :=
  (by decide +kernel : ∀ t : Fin grid0.N, (win0_7.index t (1 : Fin 3) = 0 ∧ win0_7.index t (2 : Fin 3) = 0)
    ∧ ∀ p : Fin 2, ∀ h : 2 * t.val + p.val < 34, win0_7.index t (0 : Fin 3) * 2 + p.val = (rowPerm ⟨2 * t.val + p.val, h⟩).val)

/-- WHAT THE RUN LEAVES in window 7's array. -/
theorem final7 (c : Dev nD) : (dats m 0 c).arrAt 7 cfg0.N
    = scaleArr (fullRow (argX m c) (argRc m c) (argMems m c)) (argK m c) := by
  refine (dats m 0 c).arrAt_eq_of_cover 7 _ (fun t _ => ?_)
    (Pipeline.Window.Covers.cover (w := cfg0.win 7) (by decide +kernel) (Memref.isWhole_whole _))
  rw [flush7]
  funext j
  obtain ⟨⟨e1, e2⟩, e0⟩ := idx7 t
  have l0 : (j (0 : Fin 3)).val < 2 := (j (0 : Fin 3)).isLt
  have l2 : (j (2 : Fin 3)).val < 128 := (j (2 : Fin 3)).isLt
  have lt := lt17 t
  have e0 := e0 ⟨(j (0 : Fin 3)).val, l0⟩ (by show 2 * t.val + (j (0 : Fin 3)).val < 34; omega)
  show scaleG (kProd m c t) ((cfg0.win 7).xinj (grid0.coords t) j) = scaleArr _ _ (((cfg0.win 7).blk t).view.emb j)
  refine scaleG_eq _ _ _ _ _ ?_ fun d q hq => ?_
  · show win0_7.index t (1 : Fin 3) * 16 + 1 * (j (1 : Fin 3)).val = (j (1 : Fin 3)).val
    omega
  · rw [kProd_apply m c t d q ⟨(j (0 : Fin 3)).val, l0⟩ ⟨(j (2 : Fin 3)).val, l2⟩ hq]
    have i0 : rowPerm ⟨2 * t.val + (j (0 : Fin 3)).val, by omega⟩ = (((cfg0.win 7).blk t).view.emb j (0 : Fin 3) : Fin 34) := Fin.ext (by
      show (rowPerm ⟨2 * t.val + (j (0 : Fin 3)).val, _⟩).val = win0_7.index t (0 : Fin 3) * 2 + 1 * (j (0 : Fin 3)).val
      rw [one_mul]
      exact e0.symm)
    have i2 : (⟨(j (2 : Fin 3)).val, l2⟩ : Fin 128) = (((cfg0.win 7).blk t).view.emb j (2 : Fin 3) : Fin 128) := Fin.ext (by
      show (j (2 : Fin 3)).val = win0_7.index t (2 : Fin 3) * 128 + 1 * (j (2 : Fin 3)).val
      omega)
    exact Finset.sum_congr rfl fun k _ => by rw [← i0, ← i2]

/-- Where a step stores window 8: the rows in the order memories, right context, segment. -/
theorem idx8 : ∀ t : Fin cfg0.N, (win0_8.index t (1 : Fin 3) = 0 ∧ win0_8.index t (2 : Fin 3) = 0)
    ∧ ∀ p : Fin 2, ∀ h : 2 * t.val + p.val < 34, win0_8.index t (0 : Fin 3) * 2 + p.val = (rowPerm ⟨2 * t.val + p.val, h⟩).val :=
  (by decide +kernel : ∀ t : Fin grid0.N, (win0_8.index t (1 : Fin 3) = 0 ∧ win0_8.index t (2 : Fin 3) = 0)
    ∧ ∀ p : Fin 2, ∀ h : 2 * t.val + p.val < 34, win0_8.index t (0 : Fin 3) * 2 + p.val = (rowPerm ⟨2 * t.val + p.val, h⟩).val)

/-- WHAT THE RUN LEAVES in window 8's array. -/
theorem final8 (c : Dev nD) : (dats m 0 c).arrAt 8 cfg0.N
    = codeArr (fullRow (argX m c) (argRc m c) (argMems m c)) (argV m c) := by
  refine (dats m 0 c).arrAt_eq_of_cover 8 _ (fun t _ => ?_)
    (Pipeline.Window.Covers.cover (w := cfg0.win 8) (by decide +kernel) (Memref.isWhole_whole _))
  rw [flush8]
  funext j
  obtain ⟨⟨e1, e2⟩, e0⟩ := idx8 t
  have l0 : (j (0 : Fin 3)).val < 2 := (j (0 : Fin 3)).isLt
  have l2 : (j (2 : Fin 3)).val < 128 := (j (2 : Fin 3)).isLt
  have lt := lt17 t
  have e0 := e0 ⟨(j (0 : Fin 3)).val, l0⟩ (by show 2 * t.val + (j (0 : Fin 3)).val < 34; omega)
  show codeG (vProd m c t) ((cfg0.win 8).xinj (grid0.coords t) j) = codeArr _ _ (((cfg0.win 8).blk t).view.emb j)
  refine codeG_eq _ _ _ _ _ ?_ fun d q hq => ?_
  · show win0_8.index t (1 : Fin 3) * 1024 + 1 * (j (1 : Fin 3)).val = (j (1 : Fin 3)).val
    omega
  · rw [vProd_apply m c t d q ⟨(j (0 : Fin 3)).val, l0⟩ ⟨(j (2 : Fin 3)).val, l2⟩ hq]
    have i0 : rowPerm ⟨2 * t.val + (j (0 : Fin 3)).val, by omega⟩ = (((cfg0.win 8).blk t).view.emb j (0 : Fin 3) : Fin 34) := Fin.ext (by
      show (rowPerm ⟨2 * t.val + (j (0 : Fin 3)).val, _⟩).val = win0_8.index t (0 : Fin 3) * 2 + 1 * (j (0 : Fin 3)).val
      rw [one_mul]
      exact e0.symm)
    have i2 : (⟨(j (2 : Fin 3)).val, l2⟩ : Fin 128) = (((cfg0.win 8).blk t).view.emb j (2 : Fin 3) : Fin 128) := Fin.ext (by
      show (j (2 : Fin 3)).val = win0_8.index t (2 : Fin 3) * 128 + 1 * (j (2 : Fin 3)).val
      omega)
    exact Finset.sum_congr rfl fun k _ => by rw [← i0, ← i2]

/-- Where a step stores window 9: the rows in the order memories, right context, segment. -/
theorem idx9 : ∀ t : Fin cfg0.N, (win0_9.index t (1 : Fin 3) = 0 ∧ win0_9.index t (2 : Fin 3) = 0)
    ∧ ∀ p : Fin 2, ∀ h : 2 * t.val + p.val < 34, win0_9.index t (0 : Fin 3) * 2 + p.val = (rowPerm ⟨2 * t.val + p.val, h⟩).val :=
  (by decide +kernel : ∀ t : Fin grid0.N, (win0_9.index t (1 : Fin 3) = 0 ∧ win0_9.index t (2 : Fin 3) = 0)
    ∧ ∀ p : Fin 2, ∀ h : 2 * t.val + p.val < 34, win0_9.index t (0 : Fin 3) * 2 + p.val = (rowPerm ⟨2 * t.val + p.val, h⟩).val)

/-- WHAT THE RUN LEAVES in window 9's array. -/
theorem final9 (c : Dev nD) : (dats m 0 c).arrAt 9 cfg0.N
    = scaleArr (fullRow (argX m c) (argRc m c) (argMems m c)) (argV m c) := by
  refine (dats m 0 c).arrAt_eq_of_cover 9 _ (fun t _ => ?_)
    (Pipeline.Window.Covers.cover (w := cfg0.win 9) (by decide +kernel) (Memref.isWhole_whole _))
  rw [flush9]
  funext j
  obtain ⟨⟨e1, e2⟩, e0⟩ := idx9 t
  have l0 : (j (0 : Fin 3)).val < 2 := (j (0 : Fin 3)).isLt
  have l2 : (j (2 : Fin 3)).val < 128 := (j (2 : Fin 3)).isLt
  have lt := lt17 t
  have e0 := e0 ⟨(j (0 : Fin 3)).val, l0⟩ (by show 2 * t.val + (j (0 : Fin 3)).val < 34; omega)
  show scaleG (vProd m c t) ((cfg0.win 9).xinj (grid0.coords t) j) = scaleArr _ _ (((cfg0.win 9).blk t).view.emb j)
  refine scaleG_eq _ _ _ _ _ ?_ fun d q hq => ?_
  · show win0_9.index t (1 : Fin 3) * 16 + 1 * (j (1 : Fin 3)).val = (j (1 : Fin 3)).val
    omega
  · rw [vProd_apply m c t d q ⟨(j (0 : Fin 3)).val, l0⟩ ⟨(j (2 : Fin 3)).val, l2⟩ hq]
    have i0 : rowPerm ⟨2 * t.val + (j (0 : Fin 3)).val, by omega⟩ = (((cfg0.win 9).blk t).view.emb j (0 : Fin 3) : Fin 34) := Fin.ext (by
      show (rowPerm ⟨2 * t.val + (j (0 : Fin 3)).val, _⟩).val = win0_9.index t (0 : Fin 3) * 2 + 1 * (j (0 : Fin 3)).val
      rw [one_mul]
      exact e0.symm)
    have i2 : (⟨(j (2 : Fin 3)).val, l2⟩ : Fin 128) = (((cfg0.win 9).blk t).view.emb j (2 : Fin 3) : Fin 128) := Fin.ext (by
      show (j (2 : Fin 3)).val = win0_9.index t (2 : Fin 3) * 128 + 1 * (j (2 : Fin 3)).val
      omega)
    exact Finset.sum_congr rfl fun k _ => by rw [← i0, ← i2]

end Cert.KernelIdeal.Hand

end
-- ==== Proof.RefGroup.lean ====
module

public import proofs.«01_k».proof.Proof.Rows
public import Idealize.ShloMosaic.Lib.KernelVsHost
public import Idealize.ShloMosaic.Lib.IdealHost
public import Idealize.ShloMosaic.Lib.Pointwise.Reduce

@[expose] public section

noncomputable section

namespace Cert.Hand

open Cert.KernelIdeal.Hand
open Idealize.ShloMosaic

/-- Shapes of the reference's arrays for `n` rows. -/
abbrev S0 : Shape := ⟨0, ![]⟩
abbrev Sh (n : ℕ) : Shape := ⟨4, ![128, n, 16, 64]⟩
abbrev Sg (n : ℕ) : Shape := ⟨3, ![128, n, 16]⟩

/-- A constant at every entry. -/
def cst (n : ℕ) (w : BitVec 32) (hb : S0.BroadcastsInDim (Sg n) ![]) : FVec Ideal (Sg n) .f32 :=
  broadcastInDim (Sg n) ![] hb (constant S0 .f32 w)

/-- The constant read at an entry. -/
theorem cst_apply (n : ℕ) (w : BitVec 32) (hb : S0.BroadcastsInDim (Sg n) ![]) (j : (Sg n).Idx) : cst n w hb j = Ideal.ofBits .f32 w := by
  unfold cst
  rw [ValueIdx.broadcastInDim_scalar_apply]
  rfl

/-- The largest magnitude of each head, from minus infinity. -/
def refMax (n : ℕ) (h : (Sh n).ReducesTo [3] (Sg n)) (hu : 0 < S0.numel) (Y : FVec Ideal (Sh n) .f32) : FVec Ideal (Sg n) .f32 :=
  Host.reduce FloatOps.maximumf (Host.absf Y) (constant S0 .f32 0xFF800000#32) h hu

/-- The exponent of each head from its largest magnitude. -/
def refExp (n : ℕ) (hb : S0.BroadcastsInDim (Sg n) ![]) (A : FVec Ideal (Sg n) .f32) : FVec Ideal (Sg n) .f32 :=
  select (cmpf .oeq A (cst n 0x00000000#32 hb)) (cst n 0x00000000#32 hb)
    (addf (Host.floor (Host.divf (Host.log (mulf A (cst n 0x3B124925#32 hb))) (Host.log (cst n 0x40000000#32 hb)))) (cst n 0x3F800000#32 hb))

/-- The scales, heads before the batch. -/
def refScales (n : ℕ) (hb : S0.BroadcastsInDim (Sg n) ![]) (ht : (Sg n).Transposes [1, 2, 0] ⟨3, ![n, 16, 128]⟩)
    (A : FVec Ideal (Sg n) .f32) : FVec Ideal ⟨3, ![n, 16, 128]⟩ .f32 :=
  transpose ⟨3, ![n, 16, 128]⟩ [1, 2, 0] (Host.powf (cst n 0x40000000#32 hb) (refExp n hb A)) ht

/-- The projections divided by their scales, channels before the batch. -/
def refScaled (n : ℕ) (hb : S0.BroadcastsInDim (Sg n) ![]) (hb3 : (Sg n).BroadcastsInDim ⟨4, ![128, n, 16, 1]⟩ ![0, 1, 2])
    (hb4 : (⟨4, ![128, n, 16, 1]⟩ : Shape).BroadcastsInDim (Sh n) ![0, 1, 2, 3])
    (ht : (Sh n).Transposes [1, 2, 3, 0] ⟨4, ![n, 16, 64, 128]⟩) (hs : (⟨4, ![n, 16, 64, 128]⟩ : Shape).ShapeCasts ⟨3, ![n, 1024, 128]⟩)
    (Y : FVec Ideal (Sh n) .f32) (A : FVec Ideal (Sg n) .f32) : FVec Ideal ⟨3, ![n, 1024, 128]⟩ .f32 :=
  shapeCast ⟨3, ![n, 1024, 128]⟩
    (transpose ⟨4, ![n, 16, 64, 128]⟩ [1, 2, 3, 0]
      (mulf Y (broadcastInDim (Sh n) ![0, 1, 2, 3] hb4 (broadcastInDim ⟨4, ![128, n, 16, 1]⟩ ![0, 1, 2] hb3
        (Host.powf (cst n 0x40000000#32 hb) (Host.negf (refExp n hb A)))))) ht) hs

/-- The largest magnitude, read at an entry. -/
theorem refMax_apply (n : ℕ) (h : (Sh n).ReducesTo [3] (Sg n)) (hu : 0 < S0.numel) (Y : FVec Ideal (Sh n) .f32)
    (b : Fin 128) (r : Fin n) (g : Fin 16) : (refMax n h hu Y (ix3 b r g) : EReal) = hmax fun i => Y (ix4 b r g i) := by
  unfold refMax
  refine (Host.reduce_eq_fold (max : EReal → EReal → EReal) _ _ h hu _).trans ?_
  rw [Shape.ReducesTo.fold_fiber_r4_a3]
  unfold hmax
  have e0 : (constant (F := Ideal) S0 .f32 0xFF800000#32 (Shape.Idx.first hu) : EReal) = ⊥ := ofBits_ninf
  rw [e0]
  rfl

/-- The exponent, read at an entry. -/
theorem refExp_apply (n : ℕ) (hb : S0.BroadcastsInDim (Sg n) ![]) (A : FVec Ideal (Sg n) .f32) (j : (Sg n).Idx) :
    (refExp n hb A j : EReal) = expR (A j) := by
  have e : (refExp n hb A j : EReal) = Scalar.select (Ideal.cmp .oeq (A j) (cst n 0x00000000#32 hb j)) (cst n 0x00000000#32 hb j)
    (Ideal.liftRound Int.floor (Ideal.div (Ideal.log (A j * cst n 0x3B124925#32 hb j)) (Ideal.log (cst n 0x40000000#32 hb j))) + cst n 0x3F800000#32 hb j : EReal) := rfl
  rw [e]
  simp only [cst_apply]
  rfl

/-- The scales, read at an entry. -/
theorem refScales_apply (n : ℕ) (hb) (ht) (A : FVec Ideal (Sg n) .f32) (r : Fin n) (g : Fin 16) (b : Fin 128) (hA : 0 ≤ (A (ix3 b r g) : EReal)) :
    (refScales n hb ht A (ix3 r g b) : EReal) = sclK (A (ix3 b r g)) := by
  unfold refScales
  refine (transpose_apply _ _ _ _ (ix3 b r g) fun a => ?_).trans ?_
  · match a with
    | ⟨0, _⟩ => rfl
    | ⟨1, _⟩ => rfl
    | ⟨2, _⟩ => rfl
  have e : (Host.powf (cst n 0x40000000#32 hb) (refExp n hb A) (ix3 b r g) : EReal)
      = Ideal.pow (cst n 0x40000000#32 hb (ix3 b r g)) (refExp n hb A (ix3 b r g)) := rfl
  rw [e, cst_apply, refExp_apply, sclK_eq _ hA]

/-- The scaled projections, read at an entry. -/
theorem refScaled_apply (n : ℕ) (hb) (hb3) (hb4) (ht) (hs) (Y : FVec Ideal (Sh n) .f32) (A : FVec Ideal (Sg n) .f32)
    (r : Fin n) (d : Fin 1024) (b : Fin 128) (g : Fin 16) (i : Fin 64) (hd : d.val = 64 * g.val + i.val) (hA : 0 ≤ (A (ix3 b r g) : EReal)) :
    (refScaled n hb hb3 hb4 ht hs Y A (ix3 r d b) : EReal) = (Y (ix4 b r g i) * invK (A (ix3 b r g)) : EReal) := by
  unfold refScaled
  refine (shapeCast_apply _ _ _ (ix4 r g i b) ?_).trans ?_
  · rw [Shape.rowMajor_val_four, Shape.rowMajor_val_three]
    show ((r.val * 16 + g.val) * 64 + i.val) * 128 + b.val = (r.val * 1024 + d.val) * 128 + b.val
    omega
  refine (transpose_apply _ _ _ _ (ix4 b r g i) fun a => ?_).trans ?_
  · match a with
    | ⟨0, _⟩ => rfl
    | ⟨1, _⟩ => rfl
    | ⟨2, _⟩ => rfl
    | ⟨3, _⟩ => rfl
  refine congrArg (fun t : EReal => (Y (ix4 b r g i) : EReal) * t) ?_
  refine (broadcastInDim_apply (t := Sh n) _ _ _ _ (ix4 b r g 0) fun a => ?_).trans ?_
  · match a with
    | ⟨0, _⟩ => rfl
    | ⟨1, _⟩ => show r.val = if n = 1 then 0 else r.val; split <;> omega
    | ⟨2, _⟩ => rfl
    | ⟨3, _⟩ => rfl
  refine (broadcastInDim_apply (t := ⟨4, ![128, n, 16, 1]⟩) _ _ _ _ (ix3 b r g) fun a => ?_).trans ?_
  · match a with
    | ⟨0, _⟩ => rfl
    | ⟨1, _⟩ => show r.val = if n = 1 then 0 else r.val; split <;> omega
    | ⟨2, _⟩ => rfl
  have e : (Host.powf (cst n 0x40000000#32 hb) (Host.negf (refExp n hb A)) (ix3 b r g) : EReal)
      = Ideal.pow (cst n 0x40000000#32 hb (ix3 b r g)) (-(refExp n hb A (ix3 b r g) : EReal)) := rfl
  rw [e, cst_apply, refExp_apply, invK_eq _ hA]

end Cert.Hand

end
-- ==== Proof.RefRows.lean ====
module

public import proofs.«01_k».proof.Proof.Gen.ReferenceIdeal.Value
public import proofs.«01_k».proof.Proof.RefGroup
public import Idealize.ShloMosaic.PureOps.Ideal.Laws

@[expose] public section

noncomputable section

namespace Cert.ReferenceIdeal.Hand

open Cert.ReferenceIdeal Cert.ReferenceIdeal.Gen Cert.Hand Cert.KernelIdeal.Hand
open Idealize.ShloMosaic Idealize.ShloMosaic.TcCoe

/-- The segment's mean row. -/
def refMean (x : FVec Ideal S128x24x1024 .bf16) : FVec Ideal S128x1x1024 .bf16 :=
  truncf .bf16 (Host.divf
    (broadcastInDim S128x1x1024 ![0, 2] bcast_S128x1024_S128x1x1024_0_2
      (Host.reduceAdd (extf .f32 x bitsLt_bf16_f32) (constant S_ .f32 0x00000000#32) reducesTo_S128x24x1024_S128x1024_d1 h_S_))
    (broadcastInDim S128x1x1024 ![] bcast_S_S128x1x1024 (constant S_ .f32 0x41C00000#32))) bitsLt_bf16_f32

/-- The mean row, read at an entry. -/
theorem refMean_apply (x : FVec Ideal S128x24x1024 .bf16) (b : Fin 128) (u : Fin 1) (k : Fin 1024) :
    (refMean x (ix3 b u k) : EReal) = meanRow x b k := by
  have e : (refMean x (ix3 b u k) : EReal) = Ideal.div
      (broadcastInDim S128x1x1024 ![0, 2] bcast_S128x1024_S128x1x1024_0_2
        (Host.reduceAdd (F := Ideal) (extf .f32 x bitsLt_bf16_f32) (constant S_ .f32 0x00000000#32) reducesTo_S128x24x1024_S128x1024_d1 h_S_) (ix3 b u k))
      (broadcastInDim S128x1x1024 ![] bcast_S_S128x1x1024 (constant (F := Ideal) S_ .f32 0x41C00000#32) (ix3 b u k)) := rfl
  rw [e]
  unfold meanRow
  have e1 : (broadcastInDim S128x1x1024 ![0, 2] bcast_S128x1024_S128x1x1024_0_2
        (Host.reduceAdd (F := Ideal) (extf .f32 x bitsLt_bf16_f32) (constant S_ .f32 0x00000000#32) reducesTo_S128x24x1024_S128x1024_d1 h_S_) (ix3 b u k) : EReal)
      = ∑ j : Fin 24, (x (ix3 b j k) : EReal) := by
    refine (broadcastInDim_apply (t := S128x1x1024) _ _ _ _ (ix2 b k) fun a => ?_).trans ?_
    · match a with
      | ⟨0, _⟩ => rfl
      | ⟨1, _⟩ => rfl
    rw [ValueIdx.hostReduceAdd_apply, Ideal.hostReduceAdd_r3_a1]
    have e0 : (constant (F := Ideal) S_ .f32 0x00000000#32 (Shape.Idx.first h_S_) : EReal) = 0 := Ideal.ofBits_zero_f32
    rw [e0, zero_add]
    rfl
  have e2 : (broadcastInDim S128x1x1024 ![] bcast_S_S128x1x1024 (constant (F := Ideal) S_ .f32 0x41C00000#32) (ix3 b u k) : EReal)
      = Ideal.ofBits .f32 0x41C00000#32 := by
    rw [ValueIdx.broadcastInDim_scalar_apply]
    rfl
  rw [e1, e2]

/-- Three blocks of rows read one after the other along the rows. -/
theorem hcat {n N : ℕ} (b : Fin 128) (k : Fin 1024) (p : Fin n) (q : Fin N) : ∀ a : Fin 3, a.cast rfl ≠ (1 : Fin 3) →
    ((ix3 b p k : (⟨3, ![128, n, 1024]⟩ : Shape).Idx) a).val = ((ix3 b q k : (⟨3, ![128, N, 1024]⟩ : Shape).Idx) (a.cast rfl)).val := by
  intro a ha
  match a with
  | ⟨0, _⟩ => rfl
  | ⟨1, _⟩ => exact absurd rfl ha
  | ⟨2, _⟩ => rfl

/-- The query rows: right context, segment, mean. -/
def refQRows (x : FVec Ideal S128x24x1024 .bf16) (rc : FVec Ideal S128x4x1024 .bf16) : FVec Ideal S128x29x1024 .bf16 :=
  concatenate S128x29x1024 1 [⟨S128x4x1024, rc⟩, ⟨S128x24x1024, x⟩, ⟨S128x1x1024, refMean x⟩]
    concatenates_S128x4x1024_S128x24x1024_S128x1x1024_S128x29x1024_d1

/-- The query rows, read at an entry. -/
theorem refQRows_apply (x : FVec Ideal S128x24x1024 .bf16) (rc : FVec Ideal S128x4x1024 .bf16) (b : Fin 128) (r : Fin 29) (k : Fin 1024) :
    (refQRows x rc (ix3 b r k) : EReal) = qRow x rc r b k := by
  unfold refQRows qRow
  by_cases h1 : r.val < 4
  · rw [dif_pos h1]
    exact concatenate_apply_piece (t := S128x29x1024) 1 _ _ (ix3 b r k) 0 (by show 0 < 3; decide) S128x4x1024 _ (by rfl) rfl 0 (by rfl) (ix3 b ⟨r.val, h1⟩ k) (hcat b k _ _) (Nat.zero_add _)
  by_cases h2 : r.val < 28
  · rw [dif_neg h1, dif_pos h2]
    exact concatenate_apply_piece (t := S128x29x1024) 1 _ _ (ix3 b r k) 1 (by show 1 < 3; decide) S128x24x1024 _ (by rfl) rfl 4 (by rfl) (ix3 b ⟨r.val - 4, by omega⟩ k) (hcat b k _ _) (by show 4 + (r.val - 4) = r.val; omega)
  · rw [dif_neg h1, dif_neg h2]
    refine (concatenate_apply_piece (t := S128x29x1024) 1 _ _ (ix3 b r k) 2 (by show 2 < 3; decide) S128x1x1024 _ (by rfl) rfl 28 (by rfl) (ix3 b ⟨r.val - 28, by omega⟩ k) (hcat b k _ _) (by show 28 + (r.val - 28) = r.val; omega)).trans ?_
    exact refMean_apply _ _ _ _

/-- The key and value rows: memories, right context, segment. -/
def refRows (x : FVec Ideal S128x24x1024 .bf16) (rc : FVec Ideal S128x4x1024 .bf16) (mems : FVec Ideal S128x6x1024 .bf16) :
    FVec Ideal S128x34x1024 .bf16 :=
  concatenate S128x34x1024 1 [⟨S128x6x1024, mems⟩, ⟨S128x4x1024, rc⟩, ⟨S128x24x1024, x⟩]
    concatenates_S128x6x1024_S128x4x1024_S128x24x1024_S128x34x1024_d1

/-- The key and value rows, read at an entry. -/
theorem refRows_apply (x : FVec Ideal S128x24x1024 .bf16) (rc : FVec Ideal S128x4x1024 .bf16) (mems : FVec Ideal S128x6x1024 .bf16)
    (b : Fin 128) (r : Fin 34) (k : Fin 1024) : (refRows x rc mems (ix3 b r k) : EReal) = fullRow x rc mems r b k := by
  unfold refRows fullRow
  by_cases h1 : r.val < 6
  · rw [dif_pos h1]
    exact concatenate_apply_piece (t := S128x34x1024) 1 _ _ (ix3 b r k) 0 (by show 0 < 3; decide) S128x6x1024 _ (by rfl) rfl 0 (by rfl) (ix3 b ⟨r.val, h1⟩ k) (hcat b k _ _) (Nat.zero_add _)
  by_cases h2 : r.val < 10
  · rw [dif_neg h1, dif_pos h2]
    exact concatenate_apply_piece (t := S128x34x1024) 1 _ _ (ix3 b r k) 1 (by show 1 < 3; decide) S128x4x1024 _ (by rfl) rfl 6 (by rfl) (ix3 b ⟨r.val - 6, by omega⟩ k) (hcat b k _ _) (by show 6 + (r.val - 6) = r.val; omega)
  · rw [dif_neg h1, dif_neg h2]
    exact concatenate_apply_piece (t := S128x34x1024) 1 _ _ (ix3 b r k) 2 (by show 2 < 3; decide) S128x24x1024 _ (by rfl) rfl 10 (by rfl) (ix3 b ⟨r.val - 10, by omega⟩ k) (hcat b k _ _) (by show 10 + (r.val - 10) = r.val; omega)

/-- The projections of 29 rows, by heads. -/
def refHeads29 (X : FVec Ideal S128x29x1024 .bf16) (W : FVec Ideal S1024x1024 .bf16) : FVec Ideal (Sh 29) .f32 :=
  shapeCast S128x29x16x64 (Host.dotGeneral dot_S128x29x1024_S1024x1024_S128x29x1024_2_0_01_1_n_n none X W) shapeCasts_S128x29x1024_S128x29x16x64

/-- The projections of 29 rows, read at an entry. -/
theorem refHeads29_apply (X : FVec Ideal S128x29x1024 .bf16) (W : FVec Ideal S1024x1024 .bf16) (b : Fin 128) (r : Fin 29) (g : Fin 16) (i : Fin 64) :
    (refHeads29 X W (ix4 b r g i) : EReal) = proj (fun k => X (ix3 b r k)) W g i := by
  unfold refHeads29
  refine (shapeCast_apply _ _ _ (ix3 b r ⟨64 * g.val + i.val, by omega⟩) ?_).trans ?_
  · rw [Shape.rowMajor_val_four, Shape.rowMajor_val_three]
    show (b.val * 29 + r.val) * 1024 + (64 * g.val + i.val) = ((b.val * 29 + r.val) * 16 + g.val) * 64 + i.val
    omega
  simp only [Host.dotGeneral]
  refine (Ideal.dotGeneral_apply _ none _ X W _).trans ?_
  refine (DotDims.sum_contr₁ _ (a := 2) rfl (K := 1024) rfl _).trans ?_
  unfold proj
  refine Finset.sum_congr rfl fun k _ => ?_
  have hL : (dot_S128x29x1024_S1024x1024_S128x29x1024_2_0_01_1_n_n).lhsIdx (ix3 b r ⟨64 * g.val + i.val, by omega⟩) (DotDims.contrIdx₁ _ (a := 2) rfl (K := 1024) rfl k) = ix3 b r k := by
    funext a
    match a with
    | ⟨0, _⟩ => rfl
    | ⟨1, _⟩ => rfl
    | ⟨2, _⟩ => rfl
  have hR : (dot_S128x29x1024_S1024x1024_S128x29x1024_2_0_01_1_n_n).rhsIdx (ix3 b r ⟨64 * g.val + i.val, by omega⟩) (DotDims.contrIdx₁ _ (a := 2) rfl (K := 1024) rfl k) = ix2 k ⟨64 * g.val + i.val, by omega⟩ := by
    funext a
    match a with
    | ⟨0, _⟩ => rfl
    | ⟨1, _⟩ => rfl
  rw [hL, hR]

/-- The projections of 34 rows, by heads. -/
def refHeads34 (X : FVec Ideal S128x34x1024 .bf16) (W : FVec Ideal S1024x1024 .bf16) : FVec Ideal (Sh 34) .f32 :=
  shapeCast S128x34x16x64 (Host.dotGeneral dot_S128x34x1024_S1024x1024_S128x34x1024_2_0_01_1_n_n none X W) shapeCasts_S128x34x1024_S128x34x16x64

/-- The projections of 34 rows, read at an entry. -/
theorem refHeads34_apply (X : FVec Ideal S128x34x1024 .bf16) (W : FVec Ideal S1024x1024 .bf16) (b : Fin 128) (r : Fin 34) (g : Fin 16) (i : Fin 64) :
    (refHeads34 X W (ix4 b r g i) : EReal) = proj (fun k => X (ix3 b r k)) W g i := by
  unfold refHeads34
  refine (shapeCast_apply _ _ _ (ix3 b r ⟨64 * g.val + i.val, by omega⟩) ?_).trans ?_
  · rw [Shape.rowMajor_val_four, Shape.rowMajor_val_three]
    show (b.val * 34 + r.val) * 1024 + (64 * g.val + i.val) = ((b.val * 34 + r.val) * 16 + g.val) * 64 + i.val
    omega
  simp only [Host.dotGeneral]
  refine (Ideal.dotGeneral_apply _ none _ X W _).trans ?_
  refine (DotDims.sum_contr₁ _ (a := 2) rfl (K := 1024) rfl _).trans ?_
  unfold proj
  refine Finset.sum_congr rfl fun k _ => ?_
  have hL : (dot_S128x34x1024_S1024x1024_S128x34x1024_2_0_01_1_n_n).lhsIdx (ix3 b r ⟨64 * g.val + i.val, by omega⟩) (DotDims.contrIdx₁ _ (a := 2) rfl (K := 1024) rfl k) = ix3 b r k := by
    funext a
    match a with
    | ⟨0, _⟩ => rfl
    | ⟨1, _⟩ => rfl
    | ⟨2, _⟩ => rfl
  have hR : (dot_S128x34x1024_S1024x1024_S128x34x1024_2_0_01_1_n_n).rhsIdx (ix3 b r ⟨64 * g.val + i.val, by omega⟩) (DotDims.contrIdx₁ _ (a := 2) rfl (K := 1024) rfl k) = ix2 k ⟨64 * g.val + i.val, by omega⟩ := by
    funext a
    match a with
    | ⟨0, _⟩ => rfl
    | ⟨1, _⟩ => rfl
  rw [hL, hR]

end Cert.ReferenceIdeal.Hand

end
-- ==== Proof.RefHost.lean ====
module

public import proofs.«01_k».proof.Proof.RefRows
public import Idealize.ShloMosaic.Lib.Claim

@[expose] public section

noncomputable section

namespace Cert.ReferenceIdeal.Hand

open Cert.ReferenceIdeal Cert.ReferenceIdeal.Gen Cert.Hand Cert.KernelIdeal.Hand
open Idealize.ShloMosaic Idealize.ShloMosaic.TcCoe Idealize.ShloMosaic.Tactic Idealize.ShloMosaic.StableHlo

variable (m : (ℓ : Loc nD τ sig) → Buf (Elt Ideal) ℓ)

/-- The arguments as arrays of extended reals. -/
abbrev argX (c : Dev nD) : FVec Ideal S128x24x1024 .bf16 := m ((c : Thread nD τ).loc main_arg0)
abbrev argRc (c : Dev nD) : FVec Ideal S128x4x1024 .bf16 := m ((c : Thread nD τ).loc main_arg1)
abbrev argMems (c : Dev nD) : FVec Ideal S128x6x1024 .bf16 := m ((c : Thread nD τ).loc main_arg2)
abbrev argQ (c : Dev nD) : FVec Ideal S1024x1024 .bf16 := m ((c : Thread nD τ).loc main_arg3)
abbrev argK (c : Dev nD) : FVec Ideal S1024x1024 .bf16 := m ((c : Thread nD τ).loc main_arg4)
abbrev argV (c : Dev nD) : FVec Ideal S1024x1024 .bf16 := m ((c : Thread nD τ).loc main_arg5)

/-- The projections of the queries, keys and values, by heads. -/
abbrev headsQ (c : Dev nD) : FVec Ideal (Sh 29) .f32 := refHeads29 (refQRows (argX m c) (argRc m c)) (argQ m c)
abbrev headsK (c : Dev nD) : FVec Ideal (Sh 34) .f32 := refHeads34 (refRows (argX m c) (argRc m c) (argMems m c)) (argK m c)
abbrev headsV (c : Dev nD) : FVec Ideal (Sh 34) .f32 := refHeads34 (refRows (argX m c) (argRc m c) (argMems m c)) (argV m c)

/-- The query scales before the call, as the reference's terms. -/
theorem V_scalesQ (c : Dev nD) : V m c main_v34 = refScales 29 bcast_S_S128x29x16 transposes_S128x29x16_S29x16x128_1_2_0
    (refMax 29 reducesTo_S128x29x16x64_S128x29x16_d3 h_S_ (headsQ m c)) := by
    unfold_abbrev_sides
    simp only [hostOps0, hostOps0_1, hostOps0_2, hostOps0_3, hostOps0_4, hostOps0_5, hostOps0_6, List.flatten_cons, List.flatten_nil, List.append_nil, List.cons_append, List.nil_append]
    after_results
    unfold refScales refExp refMax cst headsQ refHeads29 refQRows refMean
    simp -implicitDefEqProofs only [StableHlo.TRef.toBuf, StableHlo.TRef.ofBuf, cast_cast, cast_eq]
    rfl

/-- The scaled query projections before the call, as the reference's terms. -/
theorem V_scaledQ (c : Dev nD) : V m c main_v36 = refScaled 29 bcast_S_S128x29x16 bcast_S128x29x16_S128x29x16x1_0_1_2
    bcast_S128x29x16x1_S128x29x16x64_0_1_2_3 transposes_S128x29x16x64_S29x16x64x128_1_2_3_0 shapeCasts_S29x16x64x128_S29x1024x128
    (headsQ m c) (refMax 29 reducesTo_S128x29x16x64_S128x29x16_d3 h_S_ (headsQ m c)) := by
    unfold_abbrev_sides
    simp only [hostOps0, hostOps0_1, hostOps0_2, hostOps0_3, hostOps0_4, hostOps0_5, hostOps0_6, List.flatten_cons, List.flatten_nil, List.append_nil, List.cons_append, List.nil_append]
    after_results
    unfold refScaled refExp refMax cst headsQ refHeads29 refQRows refMean
    simp -implicitDefEqProofs only [StableHlo.TRef.toBuf, StableHlo.TRef.ofBuf, cast_cast, cast_eq]
    rfl

/-- The key scales before the call, as the reference's terms. -/
theorem V_scalesK (c : Dev nD) : V m c main_v57 = refScales 34 bcast_S_S128x34x16 transposes_S128x34x16_S34x16x128_1_2_0
    (refMax 34 reducesTo_S128x34x16x64_S128x34x16_d3 h_S_ (headsK m c)) := by
    unfold_abbrev_sides
    simp only [hostOps0, hostOps0_1, hostOps0_2, hostOps0_3, hostOps0_4, hostOps0_5, hostOps0_6, List.flatten_cons, List.flatten_nil, List.append_nil, List.cons_append, List.nil_append]
    after_results
    unfold refScales refExp refMax cst headsK refHeads34 refRows
    simp -implicitDefEqProofs only [StableHlo.TRef.toBuf, StableHlo.TRef.ofBuf, cast_cast, cast_eq]
    rfl

/-- The scaled key projections before the call, as the reference's terms. -/
theorem V_scaledK (c : Dev nD) : V m c main_v59 = refScaled 34 bcast_S_S128x34x16 bcast_S128x34x16_S128x34x16x1_0_1_2
    bcast_S128x34x16x1_S128x34x16x64_0_1_2_3 transposes_S128x34x16x64_S34x16x64x128_1_2_3_0 shapeCasts_S34x16x64x128_S34x1024x128
    (headsK m c) (refMax 34 reducesTo_S128x34x16x64_S128x34x16_d3 h_S_ (headsK m c)) := by
    unfold_abbrev_sides
    simp only [hostOps0, hostOps0_1, hostOps0_2, hostOps0_3, hostOps0_4, hostOps0_5, hostOps0_6, List.flatten_cons, List.flatten_nil, List.append_nil, List.cons_append, List.nil_append]
    after_results
    unfold refScaled refExp refMax cst headsK refHeads34 refRows
    simp -implicitDefEqProofs only [StableHlo.TRef.toBuf, StableHlo.TRef.ofBuf, cast_cast, cast_eq]
    rfl

/-- The value scales before the call, as the reference's terms. -/
theorem V_scalesV (c : Dev nD) : V m c main_v80 = refScales 34 bcast_S_S128x34x16 transposes_S128x34x16_S34x16x128_1_2_0
    (refMax 34 reducesTo_S128x34x16x64_S128x34x16_d3 h_S_ (headsV m c)) := by
    unfold_abbrev_sides
    simp only [hostOps0, hostOps0_1, hostOps0_2, hostOps0_3, hostOps0_4, hostOps0_5, hostOps0_6, List.flatten_cons, List.flatten_nil, List.append_nil, List.cons_append, List.nil_append]
    after_results
    unfold refScales refExp refMax cst headsV refHeads34 refRows
    simp -implicitDefEqProofs only [StableHlo.TRef.toBuf, StableHlo.TRef.ofBuf, cast_cast, cast_eq]
    rfl

/-- The scaled value projections before the call, as the reference's terms. -/
theorem V_scaledV (c : Dev nD) : V m c main_v82 = refScaled 34 bcast_S_S128x34x16 bcast_S128x34x16_S128x34x16x1_0_1_2
    bcast_S128x34x16x1_S128x34x16x64_0_1_2_3 transposes_S128x34x16x64_S34x16x64x128_1_2_3_0 shapeCasts_S34x16x64x128_S34x1024x128
    (headsV m c) (refMax 34 reducesTo_S128x34x16x64_S128x34x16_d3 h_S_ (headsV m c)) := by
    unfold_abbrev_sides
    simp only [hostOps0, hostOps0_1, hostOps0_2, hostOps0_3, hostOps0_4, hostOps0_5, hostOps0_6, List.flatten_cons, List.flatten_nil, List.append_nil, List.cons_append, List.nil_append]
    after_results
    unfold refScaled refExp refMax cst headsV refHeads34 refRows
    simp -implicitDefEqProofs only [StableHlo.TRef.toBuf, StableHlo.TRef.ofBuf, cast_cast, cast_eq]
    rfl

end Cert.ReferenceIdeal.Hand

end
-- ==== Proof.RefFinal.lean ====
module

public import proofs.«01_k».proof.Proof.RefHost
public import Idealize.ShloMosaic.Lib.Pipeline.ValueKit.Geometry

@[expose] public section

noncomputable section

namespace Cert.ReferenceIdeal.Hand

open Cert.ReferenceIdeal Cert.ReferenceIdeal.Gen Cert.Hand Cert.KernelIdeal.Hand
open Idealize.ShloMosaic Idealize.ShloMosaic.TcCoe

variable (m : (ℓ : Loc nD τ sig) → Buf (Elt Ideal) ℓ)

/-- An index of rank 3 is its three coordinates. -/
theorem eta3 {a b c : ℕ} (y : (⟨3, ![a, b, c]⟩ : Shape).Idx) : ∃ (i : Fin a) (j : Fin b) (k : Fin c), y = ix3 i j k := by
  refine ⟨y 0, y 1, y 2, funext fun i => ?_⟩
  match i with
  | ⟨0, _⟩ => rfl
  | ⟨1, _⟩ => rfl
  | ⟨2, _⟩ => rfl

/-- The query projections by heads are the projections of the rows. -/
theorem headsQ_apply (c : Dev nD) (b : Fin 128) (r : Fin 29) (g : Fin 16) :
    (fun i => (headsQ m c (ix4 b r g i) : EReal)) = proj ((qRow (argX m c) (argRc m c)) r b) (argQ m c) g := by
  funext i
  refine (refHeads29_apply _ _ b r g i).trans ?_
  exact congrArg (fun f => proj f (argQ m c) g i) (funext fun k => refQRows_apply _ _ b r k)

/-- The largest magnitudes of the query heads. -/
theorem maxQ_apply (c : Dev nD) (b : Fin 128) (r : Fin 29) (g : Fin 16) :
    (refMax 29 reducesTo_S128x29x16x64_S128x29x16_d3 h_S_ (headsQ m c) (ix3 b r g) : EReal) = hmax (proj ((qRow (argX m c) (argRc m c)) r b) (argQ m c) g) := by
  rw [refMax_apply, headsQ_apply]

/-- The query scales the reference returns. -/
theorem scalesQ (c : Dev nD) : V m c main_v34 = scaleArr (qRow (argX m c) (argRc m c)) (argQ m c) := by
  rw [V_scalesQ]
  funext y
  obtain ⟨r, g, b, rfl⟩ := eta3 y
  have h := maxQ_apply m c b r g
  refine (refScales_apply 29 _ _ _ _ _ _ (by rw [h]; exact hmax_nonneg _)).trans ?_
  rw [h]
  rfl

/-- The scaled query projections the reference's call clips. -/
theorem scaledQ (c : Dev nD) (y : S29x1024x128.Idx) :
    (min (Ideal.ofBits .f32 0x43E00000#32) (max (Ideal.ofBits .f32 0xC3E00000#32) (V m c main_v36 y)) : EReal)
      = codeArr (qRow (argX m c) (argRc m c)) (argQ m c) y := by
  obtain ⟨r, d, b, rfl⟩ := eta3 y
  rw [V_scaledQ]
  have l1 : d.val < 1024 := d.isLt
  have h := maxQ_apply m c b r ⟨d.val / 64, by omega⟩
  have e := refScaled_apply 29 bcast_S_S128x29x16 bcast_S128x29x16_S128x29x16x1_0_1_2 bcast_S128x29x16x1_S128x29x16x64_0_1_2_3
    transposes_S128x29x16x64_S29x16x64x128_1_2_3_0 shapeCasts_S29x16x64x128_S29x1024x128 (headsQ m c)
    (refMax 29 reducesTo_S128x29x16x64_S128x29x16_d3 h_S_ (headsQ m c)) r d b ⟨d.val / 64, by omega⟩ ⟨d.val % 64, by omega⟩
    (by show d.val = 64 * (d.val / 64) + d.val % 64; omega) (by rw [h]; exact hmax_nonneg _)
  rw [e, h, show (headsQ m c (ix4 b r ⟨d.val / 64, by omega⟩ ⟨d.val % 64, by omega⟩) : EReal)
    = proj ((qRow (argX m c) (argRc m c)) r b) (argQ m c) ⟨d.val / 64, by omega⟩ ⟨d.val % 64, by omega⟩
    from congrFun (headsQ_apply m c b r ⟨d.val / 64, by omega⟩) _]
  rfl

/-- The call's one step reads and writes query arrays whole. -/
theorem idx3 : ∀ t : Fin cfg0.N, (∀ a : Fin 3, win0_0.index t a = 0) ∧ ∀ a : Fin 3, win0_3.index t a = 0 :=
  (by decide +kernel : ∀ t : Fin grid0.N, (∀ a : Fin 3, win0_0.index t a = 0) ∧ ∀ a : Fin 3, win0_3.index t a = 0)

/-- The call's one step reads the scaled query projections whole. -/
theorem iblk0_eq (c : Dev nD) (t : Fin cfg0.N) : (iblk m c 0 t : Vec Ideal S29x1024x128 .f32) = V m c main_v36 := by
  funext j
  show V m c main_v36 (((cfg0.win 0).blk t).view.emb j) = V m c main_v36 j
  refine congrArg (V m c main_v36) (funext fun a => Fin.ext ?_)
  have := (idx3 t).1 a
  show win0_0.index t a * S29x1024x128.size a + 1 * (j a).val = (j a).val
  rw [this]; omega

/-- WHAT THE REFERENCE RETURNS as query codes. -/
theorem final3 (c : Dev nD) : (dats m 0 c).arrAt 3 cfg0.N = codeArr (qRow (argX m c) (argRc m c)) (argQ m c) := by
  refine (dats m 0 c).arrAt_eq_of_cover 3 _ (fun t _ => ?_)
    (Pipeline.Window.Covers.cover (w := cfg0.win 3) (by decide +kernel) (Memref.isWhole_whole _))
  rw [Value.flushed3]
  funext j
  obtain ⟨ei, eo⟩ := idx3 t
  have hj : ((cfg0.win 3).xinj (grid0.coords t) j : S29x1024x128.Idx) = ((cfg0.win 3).blk t).view.emb j := funext fun a => Fin.ext (by
    have := eo a
    show (j a).val = win0_3.index t a * S29x1024x128.size a + 1 * (j a).val
    rw [this]; omega)
  show out0_3 (iblk m c 0 t) (iblk m c 1 t) (iblk m c 2 t) ((cfg0.win 3).xinj (grid0.coords t) j) = codeArr _ _ (((cfg0.win 3).blk t).view.emb j)
  rw [← hj, ← scaledQ]
  generalize ((cfg0.win 3).xinj (grid0.coords t) j : S29x1024x128.Idx) = y
  unfold out0_3
  rw [Value.canon3_eq]
  rw [iblk0_eq]
  have e : View.ld (V m c main_v36 : Vec Ideal S29x1024x128 .f32) r0_0 = V m c main_v36 := View.ld_unit_zero (funext fun a => by
    match a with
    | ⟨0, _⟩ => rfl
    | ⟨1, _⟩ => rfl
    | ⟨2, _⟩ => rfl) _ _
  refine (congrFun (congrArg Value.E3 e) y).trans ?_
  have e' : Value.ix3_0 y = y := funext fun a => by
    match a with
    | ⟨0, _⟩ => rfl
    | ⟨1, _⟩ => rfl
    | ⟨2, _⟩ => rfl
  show (min (Ideal.ofBits .f32 0x43E00000#32) (max (Ideal.ofBits .f32 0xC3E00000#32) (V m c main_v36 (Value.ix3_0 y))) : EReal) = _
  rw [e']

/-- The key projections by heads are the projections of the rows. -/
theorem headsK_apply (c : Dev nD) (b : Fin 128) (r : Fin 34) (g : Fin 16) :
    (fun i => (headsK m c (ix4 b r g i) : EReal)) = proj ((fullRow (argX m c) (argRc m c) (argMems m c)) r b) (argK m c) g := by
  funext i
  refine (refHeads34_apply _ _ b r g i).trans ?_
  exact congrArg (fun f => proj f (argK m c) g i) (funext fun k => refRows_apply _ _ _ b r k)

/-- The largest magnitudes of the key heads. -/
theorem maxK_apply (c : Dev nD) (b : Fin 128) (r : Fin 34) (g : Fin 16) :
    (refMax 34 reducesTo_S128x34x16x64_S128x34x16_d3 h_S_ (headsK m c) (ix3 b r g) : EReal) = hmax (proj ((fullRow (argX m c) (argRc m c) (argMems m c)) r b) (argK m c) g) := by
  rw [refMax_apply, headsK_apply]

/-- The key scales the reference returns. -/
theorem scalesK (c : Dev nD) : V m c main_v57 = scaleArr (fullRow (argX m c) (argRc m c) (argMems m c)) (argK m c) := by
  rw [V_scalesK]
  funext y
  obtain ⟨r, g, b, rfl⟩ := eta3 y
  have h := maxK_apply m c b r g
  refine (refScales_apply 34 _ _ _ _ _ _ (by rw [h]; exact hmax_nonneg _)).trans ?_
  rw [h]
  rfl

/-- The scaled key projections the reference's call clips. -/
theorem scaledK (c : Dev nD) (y : S34x1024x128.Idx) :
    (min (Ideal.ofBits .f32 0x43E00000#32) (max (Ideal.ofBits .f32 0xC3E00000#32) (V m c main_v59 y)) : EReal)
      = codeArr (fullRow (argX m c) (argRc m c) (argMems m c)) (argK m c) y := by
  obtain ⟨r, d, b, rfl⟩ := eta3 y
  rw [V_scaledK]
  have l1 : d.val < 1024 := d.isLt
  have h := maxK_apply m c b r ⟨d.val / 64, by omega⟩
  have e := refScaled_apply 34 bcast_S_S128x34x16 bcast_S128x34x16_S128x34x16x1_0_1_2 bcast_S128x34x16x1_S128x34x16x64_0_1_2_3
    transposes_S128x34x16x64_S34x16x64x128_1_2_3_0 shapeCasts_S34x16x64x128_S34x1024x128 (headsK m c)
    (refMax 34 reducesTo_S128x34x16x64_S128x34x16_d3 h_S_ (headsK m c)) r d b ⟨d.val / 64, by omega⟩ ⟨d.val % 64, by omega⟩
    (by show d.val = 64 * (d.val / 64) + d.val % 64; omega) (by rw [h]; exact hmax_nonneg _)
  rw [e, h, show (headsK m c (ix4 b r ⟨d.val / 64, by omega⟩ ⟨d.val % 64, by omega⟩) : EReal)
    = proj ((fullRow (argX m c) (argRc m c) (argMems m c)) r b) (argK m c) ⟨d.val / 64, by omega⟩ ⟨d.val % 64, by omega⟩
    from congrFun (headsK_apply m c b r ⟨d.val / 64, by omega⟩) _]
  rfl

/-- The call's one step reads and writes key arrays whole. -/
theorem idx4 : ∀ t : Fin cfg0.N, (∀ a : Fin 3, win0_1.index t a = 0) ∧ ∀ a : Fin 3, win0_4.index t a = 0 :=
  (by decide +kernel : ∀ t : Fin grid0.N, (∀ a : Fin 3, win0_1.index t a = 0) ∧ ∀ a : Fin 3, win0_4.index t a = 0)

/-- The call's one step reads the scaled key projections whole. -/
theorem iblk1_eq (c : Dev nD) (t : Fin cfg0.N) : (iblk m c 1 t : Vec Ideal S34x1024x128 .f32) = V m c main_v59 := by
  funext j
  show V m c main_v59 (((cfg0.win 1).blk t).view.emb j) = V m c main_v59 j
  refine congrArg (V m c main_v59) (funext fun a => Fin.ext ?_)
  have := (idx4 t).1 a
  show win0_1.index t a * S34x1024x128.size a + 1 * (j a).val = (j a).val
  rw [this]; omega

/-- WHAT THE REFERENCE RETURNS as key codes. -/
theorem final4 (c : Dev nD) : (dats m 0 c).arrAt 4 cfg0.N = codeArr (fullRow (argX m c) (argRc m c) (argMems m c)) (argK m c) := by
  refine (dats m 0 c).arrAt_eq_of_cover 4 _ (fun t _ => ?_)
    (Pipeline.Window.Covers.cover (w := cfg0.win 4) (by decide +kernel) (Memref.isWhole_whole _))
  rw [Value.flushed4]
  funext j
  obtain ⟨ei, eo⟩ := idx4 t
  have hj : ((cfg0.win 4).xinj (grid0.coords t) j : S34x1024x128.Idx) = ((cfg0.win 4).blk t).view.emb j := funext fun a => Fin.ext (by
    have := eo a
    show (j a).val = win0_4.index t a * S34x1024x128.size a + 1 * (j a).val
    rw [this]; omega)
  show out0_4 (iblk m c 0 t) (iblk m c 1 t) (iblk m c 2 t) ((cfg0.win 4).xinj (grid0.coords t) j) = codeArr _ _ (((cfg0.win 4).blk t).view.emb j)
  rw [← hj, ← scaledK]
  generalize ((cfg0.win 4).xinj (grid0.coords t) j : S34x1024x128.Idx) = y
  unfold out0_4
  rw [Value.canon4_eq]
  rw [iblk1_eq]
  have e : View.ld (V m c main_v59 : Vec Ideal S34x1024x128 .f32) r0_1 = V m c main_v59 := View.ld_unit_zero (funext fun a => by
    match a with
    | ⟨0, _⟩ => rfl
    | ⟨1, _⟩ => rfl
    | ⟨2, _⟩ => rfl) _ _
  refine (congrFun (congrArg Value.E4 e) y).trans ?_
  have e' : Value.ix4_0 y = y := funext fun a => by
    match a with
    | ⟨0, _⟩ => rfl
    | ⟨1, _⟩ => rfl
    | ⟨2, _⟩ => rfl
  show (min (Ideal.ofBits .f32 0x43E00000#32) (max (Ideal.ofBits .f32 0xC3E00000#32) (V m c main_v59 (Value.ix4_0 y))) : EReal) = _
  rw [e']

/-- The value projections by heads are the projections of the rows. -/
theorem headsV_apply (c : Dev nD) (b : Fin 128) (r : Fin 34) (g : Fin 16) :
    (fun i => (headsV m c (ix4 b r g i) : EReal)) = proj ((fullRow (argX m c) (argRc m c) (argMems m c)) r b) (argV m c) g := by
  funext i
  refine (refHeads34_apply _ _ b r g i).trans ?_
  exact congrArg (fun f => proj f (argV m c) g i) (funext fun k => refRows_apply _ _ _ b r k)

/-- The largest magnitudes of the value heads. -/
theorem maxV_apply (c : Dev nD) (b : Fin 128) (r : Fin 34) (g : Fin 16) :
    (refMax 34 reducesTo_S128x34x16x64_S128x34x16_d3 h_S_ (headsV m c) (ix3 b r g) : EReal) = hmax (proj ((fullRow (argX m c) (argRc m c) (argMems m c)) r b) (argV m c) g) := by
  rw [refMax_apply, headsV_apply]

/-- The value scales the reference returns. -/
theorem scalesV (c : Dev nD) : V m c main_v80 = scaleArr (fullRow (argX m c) (argRc m c) (argMems m c)) (argV m c) := by
  rw [V_scalesV]
  funext y
  obtain ⟨r, g, b, rfl⟩ := eta3 y
  have h := maxV_apply m c b r g
  refine (refScales_apply 34 _ _ _ _ _ _ (by rw [h]; exact hmax_nonneg _)).trans ?_
  rw [h]
  rfl

/-- The scaled value projections the reference's call clips. -/
theorem scaledV (c : Dev nD) (y : S34x1024x128.Idx) :
    (min (Ideal.ofBits .f32 0x43E00000#32) (max (Ideal.ofBits .f32 0xC3E00000#32) (V m c main_v82 y)) : EReal)
      = codeArr (fullRow (argX m c) (argRc m c) (argMems m c)) (argV m c) y := by
  obtain ⟨r, d, b, rfl⟩ := eta3 y
  rw [V_scaledV]
  have l1 : d.val < 1024 := d.isLt
  have h := maxV_apply m c b r ⟨d.val / 64, by omega⟩
  have e := refScaled_apply 34 bcast_S_S128x34x16 bcast_S128x34x16_S128x34x16x1_0_1_2 bcast_S128x34x16x1_S128x34x16x64_0_1_2_3
    transposes_S128x34x16x64_S34x16x64x128_1_2_3_0 shapeCasts_S34x16x64x128_S34x1024x128 (headsV m c)
    (refMax 34 reducesTo_S128x34x16x64_S128x34x16_d3 h_S_ (headsV m c)) r d b ⟨d.val / 64, by omega⟩ ⟨d.val % 64, by omega⟩
    (by show d.val = 64 * (d.val / 64) + d.val % 64; omega) (by rw [h]; exact hmax_nonneg _)
  rw [e, h, show (headsV m c (ix4 b r ⟨d.val / 64, by omega⟩ ⟨d.val % 64, by omega⟩) : EReal)
    = proj ((fullRow (argX m c) (argRc m c) (argMems m c)) r b) (argV m c) ⟨d.val / 64, by omega⟩ ⟨d.val % 64, by omega⟩
    from congrFun (headsV_apply m c b r ⟨d.val / 64, by omega⟩) _]
  rfl

/-- The call's one step reads and writes value arrays whole. -/
theorem idx5 : ∀ t : Fin cfg0.N, (∀ a : Fin 3, win0_2.index t a = 0) ∧ ∀ a : Fin 3, win0_5.index t a = 0 :=
  (by decide +kernel : ∀ t : Fin grid0.N, (∀ a : Fin 3, win0_2.index t a = 0) ∧ ∀ a : Fin 3, win0_5.index t a = 0)

/-- The call's one step reads the scaled value projections whole. -/
theorem iblk2_eq (c : Dev nD) (t : Fin cfg0.N) : (iblk m c 2 t : Vec Ideal S34x1024x128 .f32) = V m c main_v82 := by
  funext j
  show V m c main_v82 (((cfg0.win 2).blk t).view.emb j) = V m c main_v82 j
  refine congrArg (V m c main_v82) (funext fun a => Fin.ext ?_)
  have := (idx5 t).1 a
  show win0_2.index t a * S34x1024x128.size a + 1 * (j a).val = (j a).val
  rw [this]; omega

/-- WHAT THE REFERENCE RETURNS as value codes. -/
theorem final5 (c : Dev nD) : (dats m 0 c).arrAt 5 cfg0.N = codeArr (fullRow (argX m c) (argRc m c) (argMems m c)) (argV m c) := by
  refine (dats m 0 c).arrAt_eq_of_cover 5 _ (fun t _ => ?_)
    (Pipeline.Window.Covers.cover (w := cfg0.win 5) (by decide +kernel) (Memref.isWhole_whole _))
  rw [Value.flushed5]
  funext j
  obtain ⟨ei, eo⟩ := idx5 t
  have hj : ((cfg0.win 5).xinj (grid0.coords t) j : S34x1024x128.Idx) = ((cfg0.win 5).blk t).view.emb j := funext fun a => Fin.ext (by
    have := eo a
    show (j a).val = win0_5.index t a * S34x1024x128.size a + 1 * (j a).val
    rw [this]; omega)
  show out0_5 (iblk m c 0 t) (iblk m c 1 t) (iblk m c 2 t) ((cfg0.win 5).xinj (grid0.coords t) j) = codeArr _ _ (((cfg0.win 5).blk t).view.emb j)
  rw [← hj, ← scaledV]
  generalize ((cfg0.win 5).xinj (grid0.coords t) j : S34x1024x128.Idx) = y
  unfold out0_5
  rw [Value.canon5_eq]
  rw [iblk2_eq]
  have e : View.ld (V m c main_v82 : Vec Ideal S34x1024x128 .f32) r0_1 = V m c main_v82 := View.ld_unit_zero (funext fun a => by
    match a with
    | ⟨0, _⟩ => rfl
    | ⟨1, _⟩ => rfl
    | ⟨2, _⟩ => rfl) _ _
  refine (congrFun (congrArg Value.E5 e) y).trans ?_
  have e' : Value.ix5_0 y = y := funext fun a => by
    match a with
    | ⟨0, _⟩ => rfl
    | ⟨1, _⟩ => rfl
    | ⟨2, _⟩ => rfl
  show (min (Ideal.ofBits .f32 0x43E00000#32) (max (Ideal.ofBits .f32 0xC3E00000#32) (V m c main_v82 (Value.ix5_0 y))) : EReal) = _
  rw [e']

end Cert.ReferenceIdeal.Hand

end
-- ==== Proof.Runs.lean ====
module

public import proofs.«01_k».proof.Proof.Arrays
public import proofs.«01_k».proof.Proof.RefFinal
public import proofs.«01_k».proof.Proof.Gen.KernelIdeal.Value
public import proofs.«01_k».proof.Proof.Gen.ReferenceIdeal.Value

@[expose] public section

noncomputable section

namespace Cert.KernelIdeal.Hand

open Cert.KernelIdeal Cert.KernelIdeal.Gen Cert.Hand
open Idealize.ShloMosaic Idealize.ShloMosaic.TcCoe

/-- The kernel runs, and ends with the codes and the scales of the three projections; the arguments
    are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v10_0) = codeArr (qRow (argX m c) (argRc m c)) (argQ m c)
      ∧ r.2.mem ((c : Thread nD τ).loc main_v10_1) = scaleArr (qRow (argX m c) (argRc m c)) (argQ m c)
      ∧ r.2.mem ((c : Thread nD τ).loc main_v10_2) = codeArr (fullRow (argX m c) (argRc m c) (argMems m c)) (argK m c)
      ∧ r.2.mem ((c : Thread nD τ).loc main_v10_3) = scaleArr (fullRow (argX m c) (argRc m c) (argMems m c)) (argK m c)
      ∧ r.2.mem ((c : Thread nD τ).loc main_v10_4) = codeArr (fullRow (argX m c) (argRc m c) (argMems m c)) (argV m c)
      ∧ r.2.mem ((c : Thread nD τ).loc main_v10_5) = scaleArr (fullRow (argX m c) (argRc m c) (argMems m c)) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Value.run_blocks m ρ)
  obtain ⟨h0, h1, h2, h3, h4, h5, -, -, -, -, -, -, hargs⟩ := h c
  exact ⟨h0.trans (final4 m c), h1.trans (final5 m c), h2.trans (final6 m c), h3.trans (final7 m c),
    h4.trans (final8 m c), h5.trans (final9 m c), hargs⟩

end Cert.KernelIdeal.Hand

namespace Cert.ReferenceIdeal.Hand

open Cert.ReferenceIdeal Cert.ReferenceIdeal.Gen Cert.Hand Cert.KernelIdeal.Hand
open Idealize.ShloMosaic Idealize.ShloMosaic.TcCoe

/-- The reference runs, and ends with the codes and the scales of the three projections; the arguments
    are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v83_0) = codeArr (qRow (argX m c) (argRc m c)) (argQ m c)
      ∧ r.2.mem ((c : Thread nD τ).loc main_v34) = scaleArr (qRow (argX m c) (argRc m c)) (argQ m c)
      ∧ r.2.mem ((c : Thread nD τ).loc main_v83_1) = codeArr (fullRow (argX m c) (argRc m c) (argMems m c)) (argK m c)
      ∧ r.2.mem ((c : Thread nD τ).loc main_v57) = scaleArr (fullRow (argX m c) (argRc m c) (argMems m c)) (argK m c)
      ∧ r.2.mem ((c : Thread nD τ).loc main_v83_2) = codeArr (fullRow (argX m c) (argRc m c) (argMems m c)) (argV m c)
      ∧ r.2.mem ((c : Thread nD τ).loc main_v80) = scaleArr (fullRow (argX m c) (argRc m c) (argMems m c)) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨(Value.post3 m r h c).trans (final3 m c),
      ((h c).2 main_v34 (Pipeline.mem_restRefs_of main_v34 (by decide) (by decide))).trans (scalesQ m c),
      (Value.post4 m r h c).trans (final4 m c),
      ((h c).2 main_v57 (Pipeline.mem_restRefs_of main_v57 (by decide) (by decide))).trans (scalesK m c),
      (Value.post5 m r h c).trans (final5 m c),
      ((h c).2 main_v80 (Pipeline.mem_restRefs_of main_v80 (by decide) (by decide))).trans (scalesV m c),
      Value.kept_main_arg0 m r h c,
      Value.kept_main_arg1 m r h c,
      Value.kept_main_arg2 m r h c,
      Value.kept_main_arg3 m r h c,
      Value.kept_main_arg4 m r h c,
      Value.kept_main_arg5 m r h c⟩)
    (run_main m ρ)

end Cert.ReferenceIdeal.Hand
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Runs

@[expose] public section

open Cert.Hand Cert.KernelIdeal.Hand Idealize.ShloMosaic Idealize.ShloMosaic.TcCoe

/-- From equal arguments the kernel and the reference end with the same codes and the same scales of the
    query, key and value projections, element by element as extended reals. -/
theorem Cert.Proof.algebraic :
    Cert.algebraic_KernelIdeal_ReferenceIdeal (hKernelIdeal := Cert.KernelIdeal.Gen.facts)
      (hReferenceIdeal := Cert.ReferenceIdeal.Gen.facts) := by
  intro m g m' g' _ hargs
  refine ⟨fun c => codeArr (qRow (argX m c) (argRc m c)) (argQ m c),
    fun c => scaleArr (qRow (argX m c) (argRc m c)) (argQ m c),
    fun c => codeArr (fullRow (argX m c) (argRc m c) (argMems m c)) (argK m c),
    fun c => scaleArr (fullRow (argX m c) (argRc m c) (argMems m c)) (argK m c),
    fun c => codeArr (fullRow (argX m c) (argRc m c) (argMems m c)) (argV m c),
    fun c => scaleArr (fullRow (argX m c) (argRc m c) (argMems m c)) (argV m c),
    Cert.KernelIdeal.Hand.run m g, ?_⟩
  refine (θ_run _ _ _).mono (fun r h c => ?_) (Cert.ReferenceIdeal.Hand.run m' g')
  obtain ⟨h0, h1, h2, h3, h4, h5, hkept⟩ := h c
  obtain ⟨e0, e1, e2, e3, e4, e5⟩ := hargs c
  have eX : Cert.ReferenceIdeal.Hand.argX m' c = argX m c := e0
  have eR : Cert.ReferenceIdeal.Hand.argRc m' c = argRc m c := e1
  have eM : Cert.ReferenceIdeal.Hand.argMems m' c = argMems m c := e2
  have eQ : Cert.ReferenceIdeal.Hand.argQ m' c = argQ m c := e3
  have eK : Cert.ReferenceIdeal.Hand.argK m' c = argK m c := e4
  have eV : Cert.ReferenceIdeal.Hand.argV m' c = argV m c := e5
  rw [eX, eR, eQ] at h0 h1
  rw [eX, eR, eM, eK] at h2 h3
  rw [eX, eR, eM, eV] at h4 h5
  exact ⟨h0, h1, h2, h3, h4, h5, hkept⟩

/-- The certificate: the three programs terminate without fault and leave their arguments unchanged, the ideal
    program is the kernel over the extended reals, and kernel and reference compute the same results. -/
theorem Cert.Proof.claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    Cert.Proof.algebraic⟩
